-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "a24" .bf16 0x3EB5#16 (((Real.sqrt 8)⁻¹ : ℝ) : EReal)
  ∧ IdealRules.named_const.Statement Cert.KernelIdeal.κ "a34" .bf16 0x3E94#16 (((Real.sqrt 12)⁻¹ : ℝ) : EReal)
  ∧ IdealRules.named_const.Statement Cert.KernelIdeal.κ "a33" .bf16 0x3EAB#16 ((1 / 3 : ℝ) : EReal)
  ∧ IdealRules.named_const.Statement Cert.KernelIdeal.κ "a23" .bf16 0x3ED1#16 (((Real.sqrt 6)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x5x16x64 : Shape := ⟨4, ![8192, 5, 16, 64]⟩
abbrev S64x64x3 : Shape := ⟨3, ![64, 64, 3]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S5x16x64x8192 : Shape := ⟨4, ![5, 16, 64, 8192]⟩
abbrev S64x3x64 : Shape := ⟨3, ![64, 3, 64]⟩
abbrev S64x192 : Shape := ⟨2, ![64, 192]⟩
abbrev S128x192 : Shape := ⟨2, ![128, 192]⟩
abbrev S528 : Shape := ⟨1, ![528]⟩
abbrev S528x1 : Shape := ⟨2, ![528, 1]⟩
abbrev S16x8192 : Shape := ⟨2, ![16, 8192]⟩
abbrev S5x16x64x512 : Shape := ⟨4, ![5, 16, 64, 512]⟩
abbrev S16x512 : Shape := ⟨2, ![16, 512]⟩
abbrev S320x8192 : Shape := ⟨2, ![320, 8192]⟩
abbrev S192x1 : Shape := ⟨2, ![192, 1]⟩
abbrev S64x1 : Shape := ⟨2, ![64, 1]⟩
abbrev S128x1 : Shape := ⟨2, ![128, 1]⟩
abbrev S16x1 : Shape := ⟨2, ![16, 1]⟩
abbrev S1x1x64x512 : Shape := ⟨4, ![1, 1, 64, 512]⟩
abbrev S64x512 : Shape := ⟨2, ![64, 512]⟩
abbrev S192x8192 : Shape := ⟨2, ![192, 8192]⟩
abbrev S64x8192 : Shape := ⟨2, ![64, 8192]⟩
abbrev S128x8192 : Shape := ⟨2, ![128, 8192]⟩
abbrev S128x512 : Shape := ⟨2, ![128, 512]⟩
abbrev S8192x16 : Shape := ⟨2, ![8192, 16]⟩

abbrev nBuf : Space → Nat
  | .hbm => 22
  | .vmem => 10
  | .smem => 0
  | _ => 0

abbrev bufTy : (tb : Table) → Fin (tcTables nBuf tb) → BufTy
  | .hbm, ⟨0, _⟩ => ⟨S8192x5x16x64, .f32⟩
  | .hbm, ⟨1, _⟩ => ⟨S64x64x3, .f32⟩
  | .hbm, ⟨2, _⟩ => ⟨S64, .f32⟩
  | .hbm, ⟨3, _⟩ => ⟨S64x64x3, .f32⟩
  | .hbm, ⟨4, _⟩ => ⟨S64, .f32⟩
  | .hbm, ⟨5, _⟩ => ⟨S64x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x16, .f32⟩
  | .hbm, ⟨10, _⟩ => ⟨S16, .f32⟩
  | .hbm, ⟨11, _⟩ => ⟨S5x16x64x8192, .f32⟩
  | .hbm, ⟨12, _⟩ => ⟨S64x3x64, .f32⟩
  | .hbm, ⟨13, _⟩ => ⟨S64x192, .f32⟩
  | .hbm, ⟨14, _⟩ => ⟨S64x3x64, .f32⟩
  | .hbm, ⟨15, _⟩ => ⟨S64x192, .f32⟩
  | .hbm, ⟨16, _⟩ => ⟨S128x192, .f32⟩
  | .hbm, ⟨17, _⟩ => ⟨S128x192, .bf16⟩
  | .hbm, ⟨18, _⟩ => ⟨S528, .f32⟩
  | .hbm, ⟨19, _⟩ => ⟨S528x1, .f32⟩
  | .hbm, ⟨20, _⟩ => ⟨S16x8192, .f32⟩
  | .hbm, ⟨21, _⟩ => ⟨S8192x16, .f32⟩
  | .local _ .vmem, ⟨0, _⟩ => ⟨S5x16x64x512, .f32⟩
  | .local _ .vmem, ⟨1, _⟩ => ⟨S5x16x64x512, .f32⟩
  | .local _ .vmem, ⟨2, _⟩ => ⟨S128x192, .bf16⟩
  | .local _ .vmem, ⟨3, _⟩ => ⟨S528x1, .f32⟩
  | .local _ .vmem, ⟨4, _⟩ => ⟨S64x128, .f32⟩
  | .local _ .vmem, ⟨5, _⟩ => ⟨S128x128, .f32⟩
  | .local _ .vmem, ⟨6, _⟩ => ⟨S128x16, .f32⟩
  | .local _ .vmem, ⟨7, _⟩ => ⟨S16x512, .f32⟩
  | .local _ .vmem, ⟨8, _⟩ => ⟨S16x512, .f32⟩
  | .local _ .vmem, ⟨9, _⟩ => ⟨S320x8192, .bf16⟩
  | _, _ => ⟨S8192x5x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S5x16x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S528x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== KernelIdeal.lean ====
variable {F : FTy → Type} [FloatOps F] [Named F]
def κ : String → Option EReal := fun
  | "a23" => some (((Real.sqrt 6)⁻¹ : ℝ) : EReal)
  | "a24" => some (((Real.sqrt 8)⁻¹ : ℝ) : EReal)
  | "a33" => some ((1 / 3 : ℝ) : EReal)
  | "a34" => some (((Real.sqrt 12)⁻¹ : ℝ) : EReal)
  | _ => none
-- ==== ReferenceIdeal.lean ====
abbrev S8192x5x16x64 : Shape := ⟨4, ![8192, 5, 16, 64]⟩
abbrev S64x64x3 : Shape := ⟨3, ![64, 64, 3]⟩
abbrev S64 : Shape := ⟨1, ![64]⟩
abbrev S64x128 : Shape := ⟨2, ![64, 128]⟩
abbrev S128 : Shape := ⟨1, ![128]⟩
abbrev S128x128 : Shape := ⟨2, ![128, 128]⟩
abbrev S128x16 : Shape := ⟨2, ![128, 16]⟩
abbrev S16 : Shape := ⟨1, ![16]⟩
abbrev S34 : Shape := ⟨1, ![34]⟩
abbrev S8192 : Shape := ⟨1, ![8192]⟩
abbrev S_ : Shape := ⟨0, ![]⟩
abbrev S1x34 : Shape := ⟨2, ![1, 34]⟩
abbrev S8192x1 : Shape := ⟨2, ![8192, 1]⟩
abbrev S8192x34 : Shape := ⟨2, ![8192, 34]⟩
abbrev S278528 : Shape := ⟨1, ![278528]⟩
abbrev S8192x16x64x5 : Shape := ⟨4, ![8192, 16, 64, 5]⟩
abbrev S131072x64x5 : Shape := ⟨3, ![131072, 64, 5]⟩
abbrev S131072x64x3 : Shape := ⟨3, ![131072, 64, 3]⟩
abbrev S64x64x1 : Shape := ⟨3, ![64, 64, 1]⟩
abbrev S64x64 : Shape := ⟨2, ![64, 64]⟩
abbrev S64x131072x3 : Shape := ⟨3, ![64, 131072, 3]⟩
abbrev S1x64x1 : Shape := ⟨3, ![1, 64, 1]⟩
abbrev S131072x64x1 : Shape := ⟨3, ![131072, 64, 1]⟩
abbrev S64x131072x1 : Shape := ⟨3, ![64, 131072, 1]⟩
abbrev S8192x16x64x1 : Shape := ⟨4, ![8192, 16, 64, 1]⟩
abbrev S8192x1x16x64 : Shape := ⟨4, ![8192, 1, 16, 64]⟩
abbrev S8192x16x64 : Shape := ⟨3, ![8192, 16, 64]⟩
abbrev S131072x64 : Shape := ⟨2, ![131072, 64]⟩
abbrev S131072x128 : Shape := ⟨2, ![131072, 128]⟩
abbrev S131072 : Shape := ⟨1, ![131072]⟩
abbrev S409600 : Shape := ⟨1, ![409600]⟩
abbrev S409600x1 : Shape := ⟨2, ![409600, 1]⟩
abbrev S409600x128 : Shape := ⟨2, ![409600, 128]⟩
abbrev S1x128 : Shape := ⟨2, ![1, 128]⟩
abbrev S131072x16 : Shape := ⟨2, ![131072, 16]⟩
abbrev S1x16 : Shape := ⟨2, ![1, 16]⟩
abbrev S8192x16 : Shape := ⟨2, ![8192, 16]⟩
abbrev S131072x1 : Shape := ⟨2, ![131072, 1]⟩

abbrev nBuf : Space → Nat
  | .hbm => 244
  | .vmem => 0
  | .smem => 0
  | _ => 0

abbrev hbmTy0_0 (i : Nat) : BufTy := match i % 128 with
  | 0 => ⟨S8192x5x16x64, .f32⟩
  | 1 => ⟨S64x64x3, .f32⟩
  | 2 => ⟨S64, .f32⟩
  | 3 => ⟨S64x64x3, .f32⟩
  | 4 => ⟨S64, .f32⟩
  | 5 => ⟨S64x128, .f32⟩
  | 6 => ⟨S128, .f32⟩
  | 7 => ⟨S128x128, .f32⟩
  | 8 => ⟨S128, .f32⟩
  | 9 => ⟨S128x16, .f32⟩
  | 10 => ⟨S16, .f32⟩
  | 11 => ⟨S34, .i32⟩
  | 12 => ⟨S34, .i32⟩
  | 13 => ⟨S8192, .i32⟩
  | 14 => ⟨S_, .i32⟩
  | 15 => ⟨S8192, .i32⟩
  | 16 => ⟨S8192, .i32⟩
  | 17 => ⟨S1x34, .i32⟩
  | 18 => ⟨S8192x1, .i32⟩
  | 19 => ⟨S8192x34, .i32⟩
  | 20 => ⟨S8192x34, .i32⟩
  | 21 => ⟨S8192x34, .i32⟩
  | 22 => ⟨S278528, .i32⟩
  | 23 => ⟨S1x34, .i32⟩
  | 24 => ⟨S8192x1, .i32⟩
  | 25 => ⟨S8192x34, .i32⟩
  | 26 => ⟨S8192x34, .i32⟩
  | 27 => ⟨S8192x34, .i32⟩
  | 28 => ⟨S278528, .i32⟩
  | 29 => ⟨S8192x16x64x5, .f32⟩
  | 30 => ⟨S131072x64x5, .f32⟩
  | 31 => ⟨S131072x64x3, .f32⟩
  | 32 => ⟨S64x64x1, .f32⟩
  | 33 => ⟨S64x64, .f32⟩
  | 34 => ⟨S64x131072x3, .f32⟩
  | 35 => ⟨S131072x64x3, .f32⟩
  | 36 => ⟨S131072x64x3, .f32⟩
  | 37 => ⟨S64x64x1, .f32⟩
  | 38 => ⟨S64x64, .f32⟩
  | 39 => ⟨S64x131072x3, .f32⟩
  | 40 => ⟨S131072x64x3, .f32⟩
  | 41 => ⟨S131072x64x3, .f32⟩
  | 42 => ⟨S131072x64x3, .f32⟩
  | 43 => ⟨S64x64x1, .f32⟩
  | 44 => ⟨S64x64, .f32⟩
  | 45 => ⟨S64x131072x3, .f32⟩
  | 46 => ⟨S131072x64x3, .f32⟩
  | 47 => ⟨S131072x64x3, .f32⟩
  | 48 => ⟨S1x64x1, .f32⟩
  | 49 => ⟨S131072x64x3, .f32⟩
  | 50 => ⟨S131072x64x3, .f32⟩
  | 51 => ⟨S_, .f32⟩
  | 52 => ⟨S131072x64x3, .f32⟩
  | 53 => ⟨S131072x64x3, .f32⟩
  | 54 => ⟨S131072x64x1, .f32⟩
  | 55 => ⟨S64x64x1, .f32⟩
  | 56 => ⟨S64x64, .f32⟩
  | 57 => ⟨S64x131072x1, .f32⟩
  | 58 => ⟨S131072x64x1, .f32⟩
  | 59 => ⟨S131072x64x1, .f32⟩
  | 60 => ⟨S64x64x1, .f32⟩
  | 61 => ⟨S64x64, .f32⟩
  | 62 => ⟨S64x131072x1, .f32⟩
  | 63 => ⟨S131072x64x1, .f32⟩
  | 64 => ⟨S131072x64x1, .f32⟩
  | 65 => ⟨S131072x64x1, .f32⟩
  | 66 => ⟨S64x64x1, .f32⟩
  | 67 => ⟨S64x64, .f32⟩
  | 68 => ⟨S64x131072x1, .f32⟩
  | 69 => ⟨S131072x64x1, .f32⟩
  | 70 => ⟨S131072x64x1, .f32⟩
  | 71 => ⟨S1x64x1, .f32⟩
  | 72 => ⟨S131072x64x1, .f32⟩
  | 73 => ⟨S131072x64x1, .f32⟩
  | 74 => ⟨S_, .f32⟩
  | 75 => ⟨S131072x64x1, .f32⟩
  | 76 => ⟨S131072x64x1, .f32⟩
  | 77 => ⟨S8192x16x64x1, .f32⟩
  | 78 => ⟨S8192x1x16x64, .f32⟩
  | 79 => ⟨S8192x16x64, .f32⟩
  | 80 => ⟨S131072x64, .f32⟩
  | 81 => ⟨S131072x128, .f32⟩
  | 82 => ⟨S131072, .i32⟩
  | 83 => ⟨S409600, .i32⟩
  | 84 => ⟨S131072, .i32⟩
  | 85 => ⟨S409600, .i32⟩
  | 86 => ⟨S_, .f32⟩
  | 87 => ⟨S131072, .f32⟩
  | 88 => ⟨S_, .i32⟩
  | 89 => ⟨S409600, .i32⟩
  | 90 => ⟨S409600, .i1⟩
  | 91 => ⟨S_, .i32⟩
  | 92 => ⟨S409600, .i32⟩
  | 93 => ⟨S409600, .i32⟩
  | 94 => ⟨S409600, .i32⟩
  | 95 => ⟨S409600x1, .i32⟩
  | 96 => ⟨S_, .f32⟩
  | 97 => ⟨S409600, .f32⟩
  | 98 => ⟨S131072, .f32⟩
  | 99 => ⟨S_, .f32⟩
  | 100 => ⟨S131072, .f32⟩
  | 101 => ⟨S131072, .i1⟩
  | 102 => ⟨S131072, .f32⟩
  | 103 => ⟨S_, .f32⟩
  | 104 => ⟨S_, .f32⟩
  | 105 => ⟨S131072, .f32⟩
  | 106 => ⟨S131072, .f32⟩
  | 107 => ⟨S_, .i32⟩
  | 108 => ⟨S409600, .i32⟩
  | 109 => ⟨S409600, .i1⟩
  | 110 => ⟨S_, .i32⟩
  | 111 => ⟨S409600, .i32⟩
  | 112 => ⟨S409600, .i32⟩
  | 113 => ⟨S409600, .i32⟩
  | 114 => ⟨S409600x1, .i32⟩
  | 115 => ⟨S409600, .f32⟩
  | 116 => ⟨S_, .i32⟩
  | 117 => ⟨S409600, .i32⟩
  | 118 => ⟨S409600, .i1⟩
  | 119 => ⟨S_, .i32⟩
  | 120 => ⟨S409600, .i32⟩
  | 121 => ⟨S409600, .i32⟩
  | 122 => ⟨S409600, .i32⟩
  | 123 => ⟨S409600x1, .i32⟩
  | 124 => ⟨S409600, .f32⟩
  | 125 => ⟨S409600, .f32⟩
  | 126 => ⟨S_, .i32⟩
  | 127 => ⟨S409600, .i32⟩
  | _ => ⟨S8192x5x16x64, .f32⟩

abbrev hbmTy0_1 (i : Nat) : BufTy := match i % 128 with
  | 0 => ⟨S409600, .i1⟩
  | 1 => ⟨S_, .i32⟩
  | 2 => ⟨S409600, .i32⟩
  | 3 => ⟨S409600, .i32⟩
  | 4 => ⟨S409600, .i32⟩
  | 5 => ⟨S409600x1, .i32⟩
  | 6 => ⟨S409600x128, .f32⟩
  | 7 => ⟨S409600x1, .f32⟩
  | 8 => ⟨S409600x128, .f32⟩
  | 9 => ⟨S409600x128, .f32⟩
  | 10 => ⟨S_, .f32⟩
  | 11 => ⟨S131072x128, .f32⟩
  | 12 => ⟨S_, .i32⟩
  | 13 => ⟨S409600, .i32⟩
  | 14 => ⟨S409600, .i1⟩
  | 15 => ⟨S_, .i32⟩
  | 16 => ⟨S409600, .i32⟩
  | 17 => ⟨S409600, .i32⟩
  | 18 => ⟨S409600, .i32⟩
  | 19 => ⟨S409600x1, .i32⟩
  | 20 => ⟨S131072x128, .f32⟩
  | 21 => ⟨S1x128, .f32⟩
  | 22 => ⟨S131072x128, .f32⟩
  | 23 => ⟨S131072x128, .f32⟩
  | 24 => ⟨S_, .f32⟩
  | 25 => ⟨S131072x128, .f32⟩
  | 26 => ⟨S131072x128, .f32⟩
  | 27 => ⟨S131072x128, .f32⟩
  | 28 => ⟨S131072, .i32⟩
  | 29 => ⟨S409600, .i32⟩
  | 30 => ⟨S131072, .i32⟩
  | 31 => ⟨S409600, .i32⟩
  | 32 => ⟨S_, .f32⟩
  | 33 => ⟨S131072, .f32⟩
  | 34 => ⟨S_, .i32⟩
  | 35 => ⟨S409600, .i32⟩
  | 36 => ⟨S409600, .i1⟩
  | 37 => ⟨S_, .i32⟩
  | 38 => ⟨S409600, .i32⟩
  | 39 => ⟨S409600, .i32⟩
  | 40 => ⟨S409600, .i32⟩
  | 41 => ⟨S409600x1, .i32⟩
  | 42 => ⟨S_, .f32⟩
  | 43 => ⟨S409600, .f32⟩
  | 44 => ⟨S131072, .f32⟩
  | 45 => ⟨S_, .f32⟩
  | 46 => ⟨S131072, .f32⟩
  | 47 => ⟨S131072, .i1⟩
  | 48 => ⟨S131072, .f32⟩
  | 49 => ⟨S_, .f32⟩
  | 50 => ⟨S_, .f32⟩
  | 51 => ⟨S131072, .f32⟩
  | 52 => ⟨S131072, .f32⟩
  | 53 => ⟨S_, .i32⟩
  | 54 => ⟨S409600, .i32⟩
  | 55 => ⟨S409600, .i1⟩
  | 56 => ⟨S_, .i32⟩
  | 57 => ⟨S409600, .i32⟩
  | 58 => ⟨S409600, .i32⟩
  | 59 => ⟨S409600, .i32⟩
  | 60 => ⟨S409600x1, .i32⟩
  | 61 => ⟨S409600, .f32⟩
  | 62 => ⟨S_, .i32⟩
  | 63 => ⟨S409600, .i32⟩
  | 64 => ⟨S409600, .i1⟩
  | 65 => ⟨S_, .i32⟩
  | 66 => ⟨S409600, .i32⟩
  | 67 => ⟨S409600, .i32⟩
  | 68 => ⟨S409600, .i32⟩
  | 69 => ⟨S409600x1, .i32⟩
  | 70 => ⟨S409600, .f32⟩
  | 71 => ⟨S409600, .f32⟩
  | 72 => ⟨S_, .i32⟩
  | 73 => ⟨S409600, .i32⟩
  | 74 => ⟨S409600, .i1⟩
  | 75 => ⟨S_, .i32⟩
  | 76 => ⟨S409600, .i32⟩
  | 77 => ⟨S409600, .i32⟩
  | 78 => ⟨S409600, .i32⟩
  | 79 => ⟨S409600x1, .i32⟩
  | 80 => ⟨S409600x128, .f32⟩
  | 81 => ⟨S409600x1, .f32⟩
  | 82 => ⟨S409600x128, .f32⟩
  | 83 => ⟨S409600x128, .f32⟩
  | 84 => ⟨S_, .f32⟩
  | 85 => ⟨S131072x128, .f32⟩
  | 86 => ⟨S_, .i32⟩
  | 87 => ⟨S409600, .i32⟩
  | 88 => ⟨S409600, .i1⟩
  | 89 => ⟨S_, .i32⟩
  | 90 => ⟨S409600, .i32⟩
  | 91 => ⟨S409600, .i32⟩
  | 92 => ⟨S409600, .i32⟩
  | 93 => ⟨S409600x1, .i32⟩
  | 94 => ⟨S131072x128, .f32⟩
  | 95 => ⟨S1x128, .f32⟩
  | 96 => ⟨S131072x128, .f32⟩
  | 97 => ⟨S131072x128, .f32⟩
  | 98 => ⟨S_, .f32⟩
  | 99 => ⟨S131072x128, .f32⟩
  | 100 => ⟨S131072x128, .f32⟩
  | 101 => ⟨S131072x16, .f32⟩
  | 102 => ⟨S1x16, .f32⟩
  | 103 => ⟨S131072x16, .f32⟩
  | 104 => ⟨S131072x16, .f32⟩
  | 105 => ⟨S131072x16, .f32⟩
  | 106 => ⟨S8192, .i32⟩
  | 107 => ⟨S8192x16, .i32⟩
  | 108 => ⟨S131072, .i32⟩
  | 109 => ⟨S_, .f32⟩
  | 110 => ⟨S8192x16, .f32⟩
  | 111 => ⟨S131072x1, .i32⟩
  | 112 => ⟨S8192x16, .f32⟩
  | 113 => ⟨S_, .f32⟩
  | 114 => ⟨S8192x16, .f32⟩
  | 115 => ⟨S8192x16, .f32⟩
  | _ => ⟨S8192x5x16x64, .f32⟩

abbrev hbmTy (i : Nat) : BufTy := match i / 128 with
  | 0 => hbmTy0_0 i
  | 1 => hbmTy0_1 i
  | _ => ⟨S8192x5x16x64, .f32⟩

abbrev bufTy : (tb : Table) → Fin (tcTables nBuf tb) → BufTy
  | .hbm, ⟨i, _⟩ => hbmTy i
  | _, _ => ⟨S8192x5x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_c_0 : Ref sig .tc := ⟨.hbm, 12, rfl⟩
abbrev main_v0 : Ref sig .tc := ⟨.hbm, 13, rfl⟩
abbrev main_c_1 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_call0_cst : Ref sig .tc := ⟨.hbm, 51, rfl⟩
abbrev main_call0_v0 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_call1_cst : Ref sig .tc := ⟨.hbm, 74, rfl⟩
abbrev main_call1_v0 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst : Ref sig .tc := ⟨.hbm, 86, rfl⟩
abbrev main_v68 : Ref sig .tc := ⟨.hbm, 87, rfl⟩
abbrev main_c_2 : Ref sig .tc := ⟨.hbm, 88, rfl⟩
abbrev main_v69 : Ref sig .tc := ⟨.hbm, 89, rfl⟩
abbrev main_v70 : Ref sig .tc := ⟨.hbm, 90, rfl⟩
abbrev main_c_3 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_cst_4 : Ref sig .tc := ⟨.hbm, 96, rfl⟩
abbrev main_v75 : Ref sig .tc := ⟨.hbm, 97, rfl⟩
abbrev main_v76 : Ref sig .tc := ⟨.hbm, 98, rfl⟩
abbrev main_cst_5 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_6 : Ref sig .tc := ⟨.hbm, 103, rfl⟩
abbrev main_call2_v0 : Ref sig .tc := ⟨.hbm, 104, rfl⟩
abbrev main_call2_v1 : Ref sig .tc := ⟨.hbm, 105, rfl⟩
abbrev main_v80 : Ref sig .tc := ⟨.hbm, 106, rfl⟩
abbrev main_c_7 : Ref sig .tc := ⟨.hbm, 107, rfl⟩
abbrev main_v81 : Ref sig .tc := ⟨.hbm, 108, rfl⟩
abbrev main_v82 : Ref sig .tc := ⟨.hbm, 109, rfl⟩
abbrev main_c_8 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_c_9 : Ref sig .tc := ⟨.hbm, 116, rfl⟩
abbrev main_v88 : Ref sig .tc := ⟨.hbm, 117, rfl⟩
abbrev main_v89 : Ref sig .tc := ⟨.hbm, 118, rfl⟩
abbrev main_c_10 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_c_11 : Ref sig .tc := ⟨.hbm, 126, rfl⟩
abbrev main_v96 : Ref sig .tc := ⟨.hbm, 127, rfl⟩
abbrev main_v97 : Ref sig .tc := ⟨.hbm, 128, rfl⟩
abbrev main_c_12 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_13 : Ref sig .tc := ⟨.hbm, 138, rfl⟩
abbrev main_v106 : Ref sig .tc := ⟨.hbm, 139, rfl⟩
abbrev main_c_14 : Ref sig .tc := ⟨.hbm, 140, rfl⟩
abbrev main_v107 : Ref sig .tc := ⟨.hbm, 141, rfl⟩
abbrev main_v108 : Ref sig .tc := ⟨.hbm, 142, rfl⟩
abbrev main_c_15 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_call3_cst : Ref sig .tc := ⟨.hbm, 152, rfl⟩
abbrev main_call3_v0 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_cst_16 : Ref sig .tc := ⟨.hbm, 160, rfl⟩
abbrev main_v123 : Ref sig .tc := ⟨.hbm, 161, rfl⟩
abbrev main_c_17 : Ref sig .tc := ⟨.hbm, 162, rfl⟩
abbrev main_v124 : Ref sig .tc := ⟨.hbm, 163, rfl⟩
abbrev main_v125 : Ref sig .tc := ⟨.hbm, 164, rfl⟩
abbrev main_c_18 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_cst_19 : Ref sig .tc := ⟨.hbm, 170, rfl⟩
abbrev main_v130 : Ref sig .tc := ⟨.hbm, 171, rfl⟩
abbrev main_v131 : Ref sig .tc := ⟨.hbm, 172, rfl⟩
abbrev main_cst_20 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_21 : Ref sig .tc := ⟨.hbm, 177, rfl⟩
abbrev main_call4_v0 : Ref sig .tc := ⟨.hbm, 178, rfl⟩
abbrev main_call4_v1 : Ref sig .tc := ⟨.hbm, 179, rfl⟩
abbrev main_v135 : Ref sig .tc := ⟨.hbm, 180, rfl⟩
abbrev main_c_22 : Ref sig .tc := ⟨.hbm, 181, rfl⟩
abbrev main_v136 : Ref sig .tc := ⟨.hbm, 182, rfl⟩
abbrev main_v137 : Ref sig .tc := ⟨.hbm, 183, rfl⟩
abbrev main_c_23 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_c_24 : Ref sig .tc := ⟨.hbm, 190, rfl⟩
abbrev main_v143 : Ref sig .tc := ⟨.hbm, 191, rfl⟩
abbrev main_v144 : Ref sig .tc := ⟨.hbm, 192, rfl⟩
abbrev main_c_25 : Ref sig .tc := ⟨.hbm, 193, rfl⟩
abbrev main_v145 : Ref sig .tc := ⟨.hbm, 194, rfl⟩
abbrev main_v146 : Ref sig .tc := ⟨.hbm, 195, rfl⟩
abbrev main_v147 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_c_26 : Ref sig .tc := ⟨.hbm, 200, rfl⟩
abbrev main_v151 : Ref sig .tc := ⟨.hbm, 201, rfl⟩
abbrev main_v152 : Ref sig .tc := ⟨.hbm, 202, rfl⟩
abbrev main_c_27 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_28 : Ref sig .tc := ⟨.hbm, 212, rfl⟩
abbrev main_v161 : Ref sig .tc := ⟨.hbm, 213, rfl⟩
abbrev main_c_29 : Ref sig .tc := ⟨.hbm, 214, rfl⟩
abbrev main_v162 : Ref sig .tc := ⟨.hbm, 215, rfl⟩
abbrev main_v163 : Ref sig .tc := ⟨.hbm, 216, rfl⟩
abbrev main_c_30 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_call5_cst : Ref sig .tc := ⟨.hbm, 226, rfl⟩
abbrev main_call5_v0 : Ref sig .tc := ⟨.hbm, 227, rfl⟩
abbrev main_v172 : Ref sig .tc := ⟨.hbm, 228, rfl⟩
abbrev main_v173 : Ref sig .tc := ⟨.hbm, 229, rfl⟩
abbrev main_v174 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_cst_31 : Ref sig .tc := ⟨.hbm, 237, rfl⟩
abbrev main_v181 : Ref sig .tc := ⟨.hbm, 238, rfl⟩
abbrev main_v182 : Ref sig .tc := ⟨.hbm, 239, rfl⟩
abbrev main_v183 : Ref sig .tc := ⟨.hbm, 240, rfl⟩
abbrev main_cst_32 : Ref sig .tc := ⟨.hbm, 241, rfl⟩
abbrev main_v184 : Ref sig .tc := ⟨.hbm, 242, rfl⟩
abbrev main_v185 : Ref sig .tc := ⟨.hbm, 243, rfl⟩

abbrev nD : Nat := 1
abbrev τ : Topo := Topo.v7x

variable {F : FTy → Type} [FloatOps F]
-- ==== Proof.Val.Graph.lean ====
/-
  The graph of the problem: sixteen nodes in a chain, two further edges, and a self-loop at every node. Its normalised
  adjacency, and what a sum over the neighbours of each node comes to.
-/
module

public import Idealize.ShloMosaic.Lib.Pointwise

@[expose] public section

namespace Cert.Maths

open Idealize.ShloMosaic

/-- Two nodes are adjacent when they are equal, next to each other in the chain, or the ends of one of the two further
    edges 1–6 and 2–5. -/
def adj (n j : Fin 16) : Bool :=
  n.val == j.val || n.val + 1 == j.val || j.val + 1 == n.val ||
    (n.val == 1 && j.val == 6) || (n.val == 6 && j.val == 1) || (n.val == 2 && j.val == 5) || (n.val == 5 && j.val == 2)

/-- The degree of a node, its self-loop counted. -/
def deg (n : Fin 16) : ℕ := (Finset.univ.filter fun j => adj n j = true).card

/-- The degrees: two at the ends of the chain, four at the ends of the two further edges, three elsewhere. -/
theorem deg_eq : deg = ![2, 4, 4, 3, 3, 4, 4, 3, 3, 3, 3, 3, 3, 3, 3, 2] := by decide

/-- The normalised adjacency: one over the root of the product of the degrees where the nodes are adjacent, zero elsewhere. -/
noncomputable def coef (n j : Fin 16) : ℝ := if adj n j = true then (√((deg n : ℝ) * (deg j : ℝ)))⁻¹ else 0

/-- The same as an extended real. -/
noncomputable def A (n j : Fin 16) : EReal := ((coef n j : ℝ) : EReal)

theorem coef_nonneg (n j : Fin 16) : 0 ≤ coef n j := by
  unfold coef; split_ifs
  · positivity
  · exact le_rfl

theorem A_nonneg (n j : Fin 16) : 0 ≤ A n j := EReal.coe_nonneg.2 (coef_nonneg n j)
theorem A_ne_top (n j : Fin 16) : A n j ≠ ⊤ := EReal.coe_ne_top _

theorem A_of_not (n j : Fin 16) (h : adj n j = false) : A n j = 0 := by simp [A, coef, h]
theorem A_of (n j : Fin 16) (h : adj n j = true) : A n j = (((√((deg n : ℝ) * (deg j : ℝ)))⁻¹ : ℝ) : EReal) := by
  simp [A, coef, h]

private theorem root4 : √(4 : ℝ) = 2 := by
  rw [show (4 : ℝ) = 2 ^ 2 by norm_num]; exact Real.sqrt_sq (by norm_num)
private theorem root9 : √(9 : ℝ) = 3 := by
  rw [show (9 : ℝ) = 3 ^ 2 by norm_num]; exact Real.sqrt_sq (by norm_num)
private theorem root16 : √(16 : ℝ) = 4 := by
  rw [show (16 : ℝ) = 4 ^ 2 by norm_num]; exact Real.sqrt_sq (by norm_num)

/-- An entry between two nodes of known degrees. -/
theorem A_val (n j : Fin 16) (a b : ℕ) (h : adj n j = true) (ha : deg n = a) (hb : deg j = b) :
    A n j = (((√((a * b : ℕ) : ℝ))⁻¹ : ℝ) : EReal) := by
  rw [A_of n j h, ha, hb]; push_cast; rfl

theorem e22 : ((((√((2 * 2 : ℕ) : ℝ))⁻¹ : ℝ)) : EReal) = ((1 / 2 : ℝ) : EReal) := by
  rw [show ((2 * 2 : ℕ) : ℝ) = 4 by norm_num, root4]; norm_num
theorem e33 : ((((√((3 * 3 : ℕ) : ℝ))⁻¹ : ℝ)) : EReal) = ((1 / 3 : ℝ) : EReal) := by
  rw [show ((3 * 3 : ℕ) : ℝ) = 9 by norm_num, root9]; norm_num
theorem e44 : ((((√((4 * 4 : ℕ) : ℝ))⁻¹ : ℝ)) : EReal) = ((1 / 4 : ℝ) : EReal) := by
  rw [show ((4 * 4 : ℕ) : ℝ) = 16 by norm_num, root16]; norm_num
theorem e24 : ((((√((2 * 4 : ℕ) : ℝ))⁻¹ : ℝ)) : EReal) = (((√8)⁻¹ : ℝ) : EReal) := by norm_num
theorem e42 : ((((√((4 * 2 : ℕ) : ℝ))⁻¹ : ℝ)) : EReal) = (((√8)⁻¹ : ℝ) : EReal) := by norm_num
theorem e34 : ((((√((3 * 4 : ℕ) : ℝ))⁻¹ : ℝ)) : EReal) = (((√12)⁻¹ : ℝ) : EReal) := by norm_num
theorem e43 : ((((√((4 * 3 : ℕ) : ℝ))⁻¹ : ℝ)) : EReal) = (((√12)⁻¹ : ℝ) : EReal) := by norm_num
theorem e23 : ((((√((2 * 3 : ℕ) : ℝ))⁻¹ : ℝ)) : EReal) = (((√6)⁻¹ : ℝ) : EReal) := by norm_num
theorem e32 : ((((√((3 * 2 : ℕ) : ℝ))⁻¹ : ℝ)) : EReal) = (((√6)⁻¹ : ℝ) : EReal) := by norm_num

/-- The sum over a node's neighbours, each entry weighted by the normalised adjacency. -/
noncomputable def agg (z : Fin 16 → EReal) (n : Fin 16) : EReal := ∑ j, z j * A n j

/-- A sum over the neighbours that leaves out the nodes that are not adjacent. -/
theorem agg_subset (z : Fin 16 → EReal) (n : Fin 16) (s : Finset (Fin 16)) (h : ∀ j, j ∉ s → adj n j = false) :
    agg z n = ∑ j ∈ s, z j * A n j :=
  (Finset.sum_subset (Finset.subset_univ s) fun j _ hj => by rw [A_of_not n j (h j hj), mul_zero]).symm

theorem agg_0 (z : Fin 16 → EReal) :
    agg z 0 = z 0 * ((1 / 2 : ℝ) : EReal) + z 1 * (((√8)⁻¹ : ℝ) : EReal) := by
  rw [agg_subset z 0 {0, 1} (by decide)]
  rw [Finset.sum_insert (by decide), Finset.sum_singleton,
    A_val 0 0 2 2 (by decide) (by decide) (by decide), A_val 0 1 2 4 (by decide) (by decide) (by decide),
    e22, e24]

theorem agg_1 (z : Fin 16 → EReal) :
    agg z 1 = z 0 * (((√8)⁻¹ : ℝ) : EReal) + z 1 * ((1 / 4 : ℝ) : EReal) + z 2 * ((1 / 4 : ℝ) : EReal) + z 6 * ((1 / 4 : ℝ) : EReal) := by
  rw [agg_subset z 1 {0, 1, 2, 6} (by decide)]
  rw [Finset.sum_insert (by decide), Finset.sum_insert (by decide), Finset.sum_insert (by decide), Finset.sum_singleton,
    A_val 1 0 4 2 (by decide) (by decide) (by decide), A_val 1 1 4 4 (by decide) (by decide) (by decide), A_val 1 2 4 4 (by decide) (by decide) (by decide), A_val 1 6 4 4 (by decide) (by decide) (by decide),
    e42, e44]
  simp only [add_assoc]

theorem agg_2 (z : Fin 16 → EReal) :
    agg z 2 = z 1 * ((1 / 4 : ℝ) : EReal) + z 2 * ((1 / 4 : ℝ) : EReal) + z 3 * (((√12)⁻¹ : ℝ) : EReal) + z 5 * ((1 / 4 : ℝ) : EReal) := by
  rw [agg_subset z 2 {1, 2, 3, 5} (by decide)]
  rw [Finset.sum_insert (by decide), Finset.sum_insert (by decide), Finset.sum_insert (by decide), Finset.sum_singleton,
    A_val 2 1 4 4 (by decide) (by decide) (by decide), A_val 2 2 4 4 (by decide) (by decide) (by decide), A_val 2 3 4 3 (by decide) (by decide) (by decide), A_val 2 5 4 4 (by decide) (by decide) (by decide),
    e43, e44]
  simp only [add_assoc]

theorem agg_3 (z : Fin 16 → EReal) :
    agg z 3 = z 2 * (((√12)⁻¹ : ℝ) : EReal) + z 3 * ((1 / 3 : ℝ) : EReal) + z 4 * ((1 / 3 : ℝ) : EReal) := by
  rw [agg_subset z 3 {2, 3, 4} (by decide)]
  rw [Finset.sum_insert (by decide), Finset.sum_insert (by decide), Finset.sum_singleton,
    A_val 3 2 3 4 (by decide) (by decide) (by decide), A_val 3 3 3 3 (by decide) (by decide) (by decide), A_val 3 4 3 3 (by decide) (by decide) (by decide),
    e33, e34]
  simp only [add_assoc]

theorem agg_4 (z : Fin 16 → EReal) :
    agg z 4 = z 3 * ((1 / 3 : ℝ) : EReal) + z 4 * ((1 / 3 : ℝ) : EReal) + z 5 * (((√12)⁻¹ : ℝ) : EReal) := by
  rw [agg_subset z 4 {3, 4, 5} (by decide)]
  rw [Finset.sum_insert (by decide), Finset.sum_insert (by decide), Finset.sum_singleton,
    A_val 4 3 3 3 (by decide) (by decide) (by decide), A_val 4 4 3 3 (by decide) (by decide) (by decide), A_val 4 5 3 4 (by decide) (by decide) (by decide),
    e33, e34]
  simp only [add_assoc]

theorem agg_5 (z : Fin 16 → EReal) :
    agg z 5 = z 2 * ((1 / 4 : ℝ) : EReal) + z 4 * (((√12)⁻¹ : ℝ) : EReal) + z 5 * ((1 / 4 : ℝ) : EReal) + z 6 * ((1 / 4 : ℝ) : EReal) := by
  rw [agg_subset z 5 {2, 4, 5, 6} (by decide)]
  rw [Finset.sum_insert (by decide), Finset.sum_insert (by decide), Finset.sum_insert (by decide), Finset.sum_singleton,
    A_val 5 2 4 4 (by decide) (by decide) (by decide), A_val 5 4 4 3 (by decide) (by decide) (by decide), A_val 5 5 4 4 (by decide) (by decide) (by decide), A_val 5 6 4 4 (by decide) (by decide) (by decide),
    e43, e44]
  simp only [add_assoc]

theorem agg_6 (z : Fin 16 → EReal) :
    agg z 6 = z 1 * ((1 / 4 : ℝ) : EReal) + z 5 * ((1 / 4 : ℝ) : EReal) + z 6 * ((1 / 4 : ℝ) : EReal) + z 7 * (((√12)⁻¹ : ℝ) : EReal) := by
  rw [agg_subset z 6 {1, 5, 6, 7} (by decide)]
  rw [Finset.sum_insert (by decide), Finset.sum_insert (by decide), Finset.sum_insert (by decide), Finset.sum_singleton,
    A_val 6 1 4 4 (by decide) (by decide) (by decide), A_val 6 5 4 4 (by decide) (by decide) (by decide), A_val 6 6 4 4 (by decide) (by decide) (by decide), A_val 6 7 4 3 (by decide) (by decide) (by decide),
    e43, e44]
  simp only [add_assoc]

theorem agg_7 (z : Fin 16 → EReal) :
    agg z 7 = z 6 * (((√12)⁻¹ : ℝ) : EReal) + z 7 * ((1 / 3 : ℝ) : EReal) + z 8 * ((1 / 3 : ℝ) : EReal) := by
  rw [agg_subset z 7 {6, 7, 8} (by decide)]
  rw [Finset.sum_insert (by decide), Finset.sum_insert (by decide), Finset.sum_singleton,
    A_val 7 6 3 4 (by decide) (by decide) (by decide), A_val 7 7 3 3 (by decide) (by decide) (by decide), A_val 7 8 3 3 (by decide) (by decide) (by decide),
    e33, e34]
  simp only [add_assoc]

theorem agg_8 (z : Fin 16 → EReal) :
    agg z 8 = z 7 * ((1 / 3 : ℝ) : EReal) + z 8 * ((1 / 3 : ℝ) : EReal) + z 9 * ((1 / 3 : ℝ) : EReal) := by
  rw [agg_subset z 8 {7, 8, 9} (by decide)]
  rw [Finset.sum_insert (by decide), Finset.sum_insert (by decide), Finset.sum_singleton,
    A_val 8 7 3 3 (by decide) (by decide) (by decide), A_val 8 8 3 3 (by decide) (by decide) (by decide), A_val 8 9 3 3 (by decide) (by decide) (by decide),
    e33]
  simp only [add_assoc]

theorem agg_9 (z : Fin 16 → EReal) :
    agg z 9 = z 8 * ((1 / 3 : ℝ) : EReal) + z 9 * ((1 / 3 : ℝ) : EReal) + z 10 * ((1 / 3 : ℝ) : EReal) := by
  rw [agg_subset z 9 {8, 9, 10} (by decide)]
  rw [Finset.sum_insert (by decide), Finset.sum_insert (by decide), Finset.sum_singleton,
    A_val 9 8 3 3 (by decide) (by decide) (by decide), A_val 9 9 3 3 (by decide) (by decide) (by decide), A_val 9 10 3 3 (by decide) (by decide) (by decide),
    e33]
  simp only [add_assoc]

theorem agg_10 (z : Fin 16 → EReal) :
    agg z 10 = z 9 * ((1 / 3 : ℝ) : EReal) + z 10 * ((1 / 3 : ℝ) : EReal) + z 11 * ((1 / 3 : ℝ) : EReal) := by
  rw [agg_subset z 10 {9, 10, 11} (by decide)]
  rw [Finset.sum_insert (by decide), Finset.sum_insert (by decide), Finset.sum_singleton,
    A_val 10 9 3 3 (by decide) (by decide) (by decide), A_val 10 10 3 3 (by decide) (by decide) (by decide), A_val 10 11 3 3 (by decide) (by decide) (by decide),
    e33]
  simp only [add_assoc]

theorem agg_11 (z : Fin 16 → EReal) :
    agg z 11 = z 10 * ((1 / 3 : ℝ) : EReal) + z 11 * ((1 / 3 : ℝ) : EReal) + z 12 * ((1 / 3 : ℝ) : EReal) := by
  rw [agg_subset z 11 {10, 11, 12} (by decide)]
  rw [Finset.sum_insert (by decide), Finset.sum_insert (by decide), Finset.sum_singleton,
    A_val 11 10 3 3 (by decide) (by decide) (by decide), A_val 11 11 3 3 (by decide) (by decide) (by decide), A_val 11 12 3 3 (by decide) (by decide) (by decide),
    e33]
  simp only [add_assoc]

theorem agg_12 (z : Fin 16 → EReal) :
    agg z 12 = z 11 * ((1 / 3 : ℝ) : EReal) + z 12 * ((1 / 3 : ℝ) : EReal) + z 13 * ((1 / 3 : ℝ) : EReal) := by
  rw [agg_subset z 12 {11, 12, 13} (by decide)]
  rw [Finset.sum_insert (by decide), Finset.sum_insert (by decide), Finset.sum_singleton,
    A_val 12 11 3 3 (by decide) (by decide) (by decide), A_val 12 12 3 3 (by decide) (by decide) (by decide), A_val 12 13 3 3 (by decide) (by decide) (by decide),
    e33]
  simp only [add_assoc]

theorem agg_13 (z : Fin 16 → EReal) :
    agg z 13 = z 12 * ((1 / 3 : ℝ) : EReal) + z 13 * ((1 / 3 : ℝ) : EReal) + z 14 * ((1 / 3 : ℝ) : EReal) := by
  rw [agg_subset z 13 {12, 13, 14} (by decide)]
  rw [Finset.sum_insert (by decide), Finset.sum_insert (by decide), Finset.sum_singleton,
    A_val 13 12 3 3 (by decide) (by decide) (by decide), A_val 13 13 3 3 (by decide) (by decide) (by decide), A_val 13 14 3 3 (by decide) (by decide) (by decide),
    e33]
  simp only [add_assoc]

theorem agg_14 (z : Fin 16 → EReal) :
    agg z 14 = z 13 * ((1 / 3 : ℝ) : EReal) + z 14 * ((1 / 3 : ℝ) : EReal) + z 15 * (((√6)⁻¹ : ℝ) : EReal) := by
  rw [agg_subset z 14 {13, 14, 15} (by decide)]
  rw [Finset.sum_insert (by decide), Finset.sum_insert (by decide), Finset.sum_singleton,
    A_val 14 13 3 3 (by decide) (by decide) (by decide), A_val 14 14 3 3 (by decide) (by decide) (by decide), A_val 14 15 3 2 (by decide) (by decide) (by decide),
    e32, e33]
  simp only [add_assoc]

theorem agg_15 (z : Fin 16 → EReal) :
    agg z 15 = z 14 * (((√6)⁻¹ : ℝ) : EReal) + z 15 * ((1 / 2 : ℝ) : EReal) := by
  rw [agg_subset z 15 {14, 15} (by decide)]
  rw [Finset.sum_insert (by decide), Finset.sum_singleton,
    A_val 15 14 2 3 (by decide) (by decide) (by decide), A_val 15 15 2 2 (by decide) (by decide) (by decide),
    e22, e23]

end Cert.Maths
-- ==== Proof.Val.Net.lean ====
/-
  The network on one graph, in plain sums over extended reals: two convolutions along the five steps, two graph
  convolutions over the sixteen nodes, a linear layer under a tanh, and the mean over the nodes.
-/
module

public import proofs.«01_k».proof.Proof.Val.Graph

@[expose] public section

namespace Cert.Maths

open Idealize.ShloMosaic

/-- The three taps of a convolution, summed one after another. -/
noncomputable def taps (W : Fin 64 → Fin 64 → Fin 3 → EReal) (x : Fin 3 → Fin 64 → EReal) (o : Fin 64) : EReal :=
  ∑ c, W o c 0 * x 0 c + ∑ c, W o c 1 * x 1 c + ∑ c, W o c 2 * x 2 c

/-- A convolution read at one position: the three taps, the bias, and no less than zero. -/
noncomputable def conv (W : Fin 64 → Fin 64 → Fin 3 → EReal) (b : Fin 64 → EReal) (x : Fin 3 → Fin 64 → EReal) (o : Fin 64) :
    EReal :=
  max (taps W x o + b o) 0

/-- Step `p + k` of five, for a position `p` of three and a tap `k` of three. -/
def step (p k : Fin 3) : Fin 5 := ⟨p.val + k.val, by omega⟩

/-- The two convolutions on the five steps of one node. -/
noncomputable def feat (W1 : Fin 64 → Fin 64 → Fin 3 → EReal) (b1 : Fin 64 → EReal) (W2 : Fin 64 → Fin 64 → Fin 3 → EReal)
    (b2 : Fin 64 → EReal) (x : Fin 5 → Fin 64 → EReal) : Fin 64 → EReal :=
  conv W2 b2 fun p => conv W1 b1 fun k => x (step p k)

/-- A graph convolution: the product with the weights, then the sum over the neighbours, the bias, and no less than zero. -/
noncomputable def gcn {K : ℕ} (W : Fin K → Fin 128 → EReal) (b : Fin 128 → EReal) (z : Fin 16 → Fin K → EReal) (n : Fin 16)
    (f : Fin 128) : EReal :=
  max (agg (fun j => ∑ c, z j c * W c f) n + b f) 0

/-- The linear layer under the tanh. -/
noncomputable def lin (W : Fin 128 → Fin 16 → EReal) (b : Fin 16 → EReal) (g : Fin 128 → EReal) (o : Fin 16) : EReal :=
  Ideal.tanh (∑ f, g f * W f o + b o)

/-- The weights and biases of the network. -/
structure Weights where
  /-- first convolution: output feature, input feature, tap -/
  W1 : Fin 64 → Fin 64 → Fin 3 → EReal
  b1 : Fin 64 → EReal
  /-- second convolution -/
  W2 : Fin 64 → Fin 64 → Fin 3 → EReal
  b2 : Fin 64 → EReal
  /-- first graph convolution: input feature, output feature -/
  Wg1 : Fin 64 → Fin 128 → EReal
  bg1 : Fin 128 → EReal
  /-- second graph convolution -/
  Wg2 : Fin 128 → Fin 128 → EReal
  bg2 : Fin 128 → EReal
  /-- linear layer: input feature, output -/
  Wl : Fin 128 → Fin 16 → EReal
  bl : Fin 16 → EReal

/-- The linear layer's output at a node of one graph, whose data are given by node, step and feature. -/
noncomputable def Weights.node (w : Weights) (x : Fin 16 → Fin 5 → Fin 64 → EReal) (n : Fin 16) (o : Fin 16) : EReal :=
  lin w.Wl w.bl (gcn w.Wg2 w.bg2 (gcn w.Wg1 w.bg1 fun j => feat w.W1 w.b1 w.W2 w.b2 (x j)) n) o

/-- The network's output on one graph: the mean over the sixteen nodes. -/
noncomputable def Weights.net (w : Weights) (x : Fin 16 → Fin 5 → Fin 64 → EReal) (o : Fin 16) : EReal :=
  (∑ n, w.node x n o) * ((1 / 16 : ℝ) : EReal)

theorem conv_nonneg (W : Fin 64 → Fin 64 → Fin 3 → EReal) (b : Fin 64 → EReal) (x : Fin 3 → Fin 64 → EReal) (o : Fin 64) :
    0 ≤ conv W b x o := le_max_right _ _

theorem gcn_nonneg {K : ℕ} (W : Fin K → Fin 128 → EReal) (b : Fin 128 → EReal) (z : Fin 16 → Fin K → EReal) (n : Fin 16)
    (f : Fin 128) : 0 ≤ gcn W b z n f := le_max_right _ _

/-- A product with a sum of terms that are not negative. -/
theorem mul_sum_of_nonneg {ι : Type} (s : Finset ι) (w : EReal) (x : ι → EReal) (h : ∀ i, 0 ≤ x i) :
    w * ∑ i ∈ s, x i = ∑ i ∈ s, w * x i := by
  classical
  induction s using Finset.induction_on with
  | empty => simp
  | insert a s ha ih =>
    rw [Finset.sum_insert ha, Finset.sum_insert ha, EReal.left_distrib_of_nonneg (h a) (Finset.sum_nonneg fun i _ => h i), ih]

/-- A product of a sum with a real number that is not negative. -/
theorem sum_mul_of_real {ι : Type} (s : Finset ι) (a : EReal) (h0 : 0 ≤ a) (h1 : a ≠ ⊤) (x : ι → EReal) :
    (∑ i ∈ s, x i) * a = ∑ i ∈ s, x i * a := by
  classical
  induction s using Finset.induction_on with
  | empty => simp
  | insert b s hb ih =>
    rw [Finset.sum_insert hb, Finset.sum_insert hb, EReal.right_distrib_of_nonneg_of_ne_top h0 h1, ih]

/-- Summing over the neighbours first and multiplying by the weights after is the same as the other order, for features
    that are not negative. -/
theorem agg_first {K : ℕ} (W : Fin K → EReal) (z : Fin 16 → Fin K → EReal) (hz : ∀ j c, 0 ≤ z j c) (n : Fin 16) :
    ∑ c, W c * agg (fun j => z j c) n = agg (fun j => ∑ c, z j c * W c) n := by
  unfold agg
  have h : ∀ c, W c * ∑ j, z j c * A n j = ∑ j, z j c * W c * A n j := fun c => by
    rw [mul_sum_of_nonneg _ _ _ fun j => mul_nonneg (hz j c) (A_nonneg n j)]
    exact Finset.sum_congr rfl fun j _ => by rw [← mul_assoc, mul_comm (W c)]
  rw [Finset.sum_congr rfl fun c _ => h c, Finset.sum_comm]
  exact Finset.sum_congr rfl fun j _ => (sum_mul_of_real _ _ (A_nonneg n j) (A_ne_top n j) _).symm

end Cert.Maths
-- ==== Proof.Val.Consts.lean ====
/-
  The literals and the named constants of the kernel, as real numbers.
-/
module

public import proofs.«01_k».proof.Proof.Gen.KernelIdeal.Frame
public import proofs.«01_k».proof.Proof.Val.Graph

set_option maxRecDepth 16384

@[expose] public section

namespace Cert.KernelIdeal.Value

open Cert.KernelIdeal Cert.KernelIdeal.Gen Idealize.ShloMosaic Cert.Maths

private theorem t33 : κ "a33" = some ((1 / 3 : ℝ) : EReal) := rfl
/-- The constant "a33" is one third. -/
theorem k33 : Named.named (F := Ideal) (φ := .bf16) κ "a33" 0x3EAB#16 = ((1 / 3 : ℝ) : EReal) := by
  simp only [Named.named, t33, Option.getD_some]
private theorem t24 : κ "a24" = some (((√8)⁻¹ : ℝ) : EReal) := rfl
/-- The constant "a24" is one over the root of eight. -/
theorem k24 : Named.named (F := Ideal) (φ := .bf16) κ "a24" 0x3EB5#16 = (((√8)⁻¹ : ℝ) : EReal) := by
  simp only [Named.named, t24, Option.getD_some]
private theorem t34 : κ "a34" = some (((√12)⁻¹ : ℝ) : EReal) := rfl
/-- The constant "a34" is one over the root of twelve. -/
theorem k34 : Named.named (F := Ideal) (φ := .bf16) κ "a34" 0x3E94#16 = (((√12)⁻¹ : ℝ) : EReal) := by
  simp only [Named.named, t34, Option.getD_some]
private theorem t23 : κ "a23" = some (((√6)⁻¹ : ℝ) : EReal) := rfl
/-- The constant "a23" is one over the root of six. -/
theorem k23 : Named.named (F := Ideal) (φ := .bf16) κ "a23" 0x3ED1#16 = (((√6)⁻¹ : ℝ) : EReal) := by
  simp only [Named.named, t23, Option.getD_some]

/-- The literal one half. -/
theorem lit_half : Ideal.ofBits .bf16 0x3F00#16 = ((1 / 2 : ℝ) : EReal) := by
  simp [Ideal.ofBits, Ideal.ieee, -EReal.coe_mul]; norm_num
/-- The literal one quarter. -/
theorem lit_quarter : Ideal.ofBits .bf16 0x3E80#16 = ((1 / 4 : ℝ) : EReal) := by
  simp [Ideal.ofBits, Ideal.ieee, -EReal.coe_mul]; norm_num
/-- The literal one sixteenth. -/
theorem lit_sixteenth : Ideal.ofBits .f32 0x3D800000#32 = ((1 / 16 : ℝ) : EReal) := by
  simp [Ideal.ofBits, Ideal.ieee, -EReal.coe_mul]; norm_num

/-- Column `q` of node `j` in a matrix whose columns are the nodes' blocks of 512, one after another. -/
def col (j : Fin 16) (q : Fin 512) : Fin 8192 := ⟨512 * j.val + q.val, by omega⟩

theorem col_zero (q : Fin 512) (h : q.val < 8192) : col 0 q = ⟨q.val, h⟩ := Fin.ext (by simp [col])

end Cert.KernelIdeal.Value
-- ==== Proof.Val.Stack.lean ====
/-
  A concatenation of sixteen pieces of 512 columns, read at a column.
-/
module

public import proofs.«01_k».proof.Proof.Val.Consts

set_option maxRecDepth 16384

@[expose] public section

namespace Cert.KernelIdeal.Value

open Cert.KernelIdeal Cert.KernelIdeal.Gen Idealize.ShloMosaic Cert.Maths

/-- Pieces of one shape laid side by side: the element at offset `r` of the piece number `k`. -/
theorem piece_at {α : Type} {s t : Shape} (a : Fin t.rank) (W : ℕ) (j : t.Idx) (hrk : s.rank = t.rank)
    (hW : s.size (a.cast hrk.symm) = W) (r : ℕ) (x : s.Idx)
    (hx : ∀ b, (x b).val = if b.val = a.val then r else (j (b.cast hrk)).val) (hr : r < W) :
    ∀ (ps : List (s.Idx → α)) (hs : ∀ s' ∈ (ps.map fun p => (⟨s, p⟩ : (s : Shape) × (s.Idx → α))).map (·.1), s'.FitsOff t a)
      (c : ℕ) (hc : c < (axisSizes t a (ps.map fun p => (⟨s, p⟩ : (s : Shape) × (s.Idx → α)))).sum)
      (k : ℕ) (hk : k < ps.length), c = W * k + r →
      concatenateAt t a j (ps.map fun p => (⟨s, p⟩ : (s : Shape) × (s.Idx → α))) hs c hc = ps[k] x := by
  intro ps
  induction ps with
  | nil => intro hs c hc k hk; exact absurd hk (by simp)
  | cons p ps ih =>
    intro hs c hc k hk hck
    cases ps with
    | nil =>
      obtain rfl : k = 0 := by simpa using hk
      rw [show (List.map (fun p => (⟨s, p⟩ : (s : Shape) × (s.Idx → α))) [p]) = [⟨s, p⟩] from rfl] at hs
      refine (concatenateAt_singleton a j p hs c hc).trans ?_
      simp only [List.getElem_cons_zero]
      congr 1
      funext b
      refine Fin.ext ?_
      rw [Shape.Idx.norm_def, hx b]
      simp only [hck]
      split_ifs <;> simp
    | cons p' ps =>
      refine (concatenateAt_cons a j p ⟨s, p'⟩ (ps.map fun p => (⟨s, p⟩ : (s : Shape) × (s.Idx → α))) hs c hc).trans ?_
      cases k with
      | zero =>
        rw [dif_pos (by rw [hW]; omega)]
        simp only [List.getElem_cons_zero]
        congr 1
        funext b
        refine Fin.ext ?_
        rw [Shape.Idx.norm_def, hx b]
        simp only [hck]
        split_ifs <;> simp
      | succ k =>
        have e : W * (k + 1) = W * k + W := by ring
        rw [dif_neg (by rw [hW]; omega)]
        refine ih _ _ _ k (by simpa using hk) ?_
        rw [hW]; omega

/-- The same of the whole concatenation. -/
theorem concat_at {α : Type} {s t : Shape} (a : Fin t.rank) (W : ℕ) (ps : List (s.Idx → α))
    (h : Shape.Concatenates ((ps.map fun p => (⟨s, p⟩ : (s : Shape) × (s.Idx → α))).map (·.1)) t a)
    (j : t.Idx) (hrk : s.rank = t.rank) (hW : s.size (a.cast hrk.symm) = W) (k r : ℕ) (hk : k < ps.length) (x : s.Idx)
    (hx : ∀ b, (x b).val = if b.val = a.val then r else (j (b.cast hrk)).val) (hr : r < W) (hj : (j a).val = W * k + r) :
    concatenate t a (ps.map fun p => (⟨s, p⟩ : (s : Shape) × (s.Idx → α))) h j = ps[k] x := by
  rw [concatenate_apply]
  exact piece_at a W j hrk hW r x hx hr ps _ _ _ k hk hj

/-- Sixteen pieces of 64 rows side by side, each read by one family: the concatenation is the family at the node and the
    column within it. -/
theorem stack64 (p0 p1 p2 p3 p4 p5 p6 p7 p8 p9 p10 p11 p12 p13 p14 p15 : FVec Ideal S64x512 .bf16)
    (h : Shape.Concatenates [S64x512, S64x512, S64x512, S64x512, S64x512, S64x512, S64x512, S64x512, S64x512, S64x512, S64x512, S64x512, S64x512, S64x512, S64x512, S64x512] S64x8192 1)
    (G : Fin 64 → Fin 16 → Fin 512 → EReal)
    (h0 : ∀ f q, p0 (ix2 f q) = G f 0 q)
    (h1 : ∀ f q, p1 (ix2 f q) = G f 1 q)
    (h2 : ∀ f q, p2 (ix2 f q) = G f 2 q)
    (h3 : ∀ f q, p3 (ix2 f q) = G f 3 q)
    (h4 : ∀ f q, p4 (ix2 f q) = G f 4 q)
    (h5 : ∀ f q, p5 (ix2 f q) = G f 5 q)
    (h6 : ∀ f q, p6 (ix2 f q) = G f 6 q)
    (h7 : ∀ f q, p7 (ix2 f q) = G f 7 q)
    (h8 : ∀ f q, p8 (ix2 f q) = G f 8 q)
    (h9 : ∀ f q, p9 (ix2 f q) = G f 9 q)
    (h10 : ∀ f q, p10 (ix2 f q) = G f 10 q)
    (h11 : ∀ f q, p11 (ix2 f q) = G f 11 q)
    (h12 : ∀ f q, p12 (ix2 f q) = G f 12 q)
    (h13 : ∀ f q, p13 (ix2 f q) = G f 13 q)
    (h14 : ∀ f q, p14 (ix2 f q) = G f 14 q)
    (h15 : ∀ f q, p15 (ix2 f q) = G f 15 q)
    (f : Fin 64) (n : Fin 16) (q : Fin 512) :
    concatenate S64x8192 1 [⟨S64x512, p0⟩, ⟨S64x512, p1⟩, ⟨S64x512, p2⟩, ⟨S64x512, p3⟩, ⟨S64x512, p4⟩, ⟨S64x512, p5⟩, ⟨S64x512, p6⟩, ⟨S64x512, p7⟩, ⟨S64x512, p8⟩, ⟨S64x512, p9⟩, ⟨S64x512, p10⟩, ⟨S64x512, p11⟩, ⟨S64x512, p12⟩, ⟨S64x512, p13⟩, ⟨S64x512, p14⟩, ⟨S64x512, p15⟩] h (ix2 f (col n q)) = G f n q := by
  have key := concat_at (s := S64x512) (t := S64x8192) 1 512 [p0, p1, p2, p3, p4, p5, p6, p7, p8, p9, p10, p11, p12, p13, p14, p15] h
    (ix2 f (col n q)) rfl rfl n.val q.val n.isLt (ix2 f q) (by intro b; fin_cases b <;> rfl) q.isLt rfl
  refine key.trans ?_
  fin_cases n
  · exact h0 f q
  · exact h1 f q
  · exact h2 f q
  · exact h3 f q
  · exact h4 f q
  · exact h5 f q
  · exact h6 f q
  · exact h7 f q
  · exact h8 f q
  · exact h9 f q
  · exact h10 f q
  · exact h11 f q
  · exact h12 f q
  · exact h13 f q
  · exact h14 f q
  · exact h15 f q

/-- Sixteen pieces of 128 rows side by side, each read by one family: the concatenation is the family at the node and the
    column within it. -/
theorem stack128 (p0 p1 p2 p3 p4 p5 p6 p7 p8 p9 p10 p11 p12 p13 p14 p15 : FVec Ideal S128x512 .bf16)
    (h : Shape.Concatenates [S128x512, S128x512, S128x512, S128x512, S128x512, S128x512, S128x512, S128x512, S128x512, S128x512, S128x512, S128x512, S128x512, S128x512, S128x512, S128x512] S128x8192 1)
    (G : Fin 128 → Fin 16 → Fin 512 → EReal)
    (h0 : ∀ f q, p0 (ix2 f q) = G f 0 q)
    (h1 : ∀ f q, p1 (ix2 f q) = G f 1 q)
    (h2 : ∀ f q, p2 (ix2 f q) = G f 2 q)
    (h3 : ∀ f q, p3 (ix2 f q) = G f 3 q)
    (h4 : ∀ f q, p4 (ix2 f q) = G f 4 q)
    (h5 : ∀ f q, p5 (ix2 f q) = G f 5 q)
    (h6 : ∀ f q, p6 (ix2 f q) = G f 6 q)
    (h7 : ∀ f q, p7 (ix2 f q) = G f 7 q)
    (h8 : ∀ f q, p8 (ix2 f q) = G f 8 q)
    (h9 : ∀ f q, p9 (ix2 f q) = G f 9 q)
    (h10 : ∀ f q, p10 (ix2 f q) = G f 10 q)
    (h11 : ∀ f q, p11 (ix2 f q) = G f 11 q)
    (h12 : ∀ f q, p12 (ix2 f q) = G f 12 q)
    (h13 : ∀ f q, p13 (ix2 f q) = G f 13 q)
    (h14 : ∀ f q, p14 (ix2 f q) = G f 14 q)
    (h15 : ∀ f q, p15 (ix2 f q) = G f 15 q)
    (f : Fin 128) (n : Fin 16) (q : Fin 512) :
    concatenate S128x8192 1 [⟨S128x512, p0⟩, ⟨S128x512, p1⟩, ⟨S128x512, p2⟩, ⟨S128x512, p3⟩, ⟨S128x512, p4⟩, ⟨S128x512, p5⟩, ⟨S128x512, p6⟩, ⟨S128x512, p7⟩, ⟨S128x512, p8⟩, ⟨S128x512, p9⟩, ⟨S128x512, p10⟩, ⟨S128x512, p11⟩, ⟨S128x512, p12⟩, ⟨S128x512, p13⟩, ⟨S128x512, p14⟩, ⟨S128x512, p15⟩] h (ix2 f (col n q)) = G f n q := by
  have key := concat_at (s := S128x512) (t := S128x8192) 1 512 [p0, p1, p2, p3, p4, p5, p6, p7, p8, p9, p10, p11, p12, p13, p14, p15] h
    (ix2 f (col n q)) rfl rfl n.val q.val n.isLt (ix2 f q) (by intro b; fin_cases b <;> rfl) q.isLt rfl
  refine key.trans ?_
  fin_cases n
  · exact h0 f q
  · exact h1 f q
  · exact h2 f q
  · exact h3 f q
  · exact h4 f q
  · exact h5 f q
  · exact h6 f q
  · exact h7 f q
  · exact h8 f q
  · exact h9 f q
  · exact h10 f q
  · exact h11 f q
  · exact h12 f q
  · exact h13 f q
  · exact h14 f q
  · exact h15 f q

end Cert.KernelIdeal.Value
-- ==== Proof.Val.Agg1.lean ====
/-
  The first aggregation: each piece of 512 columns is the sum over a node's neighbours.
-/
module

public import proofs.«01_k».proof.Proof.Val.Consts

set_option maxRecDepth 16384

@[expose] public section

namespace Cert.KernelIdeal.Value

open Cert.KernelIdeal Cert.KernelIdeal.Gen Idealize.ShloMosaic Cert.Maths

/-- The piece of node 0: the sum over the node's neighbours. -/
theorem agg1_0 (v1 v3 : FVec Ideal S64x192 .bf16) (v11 : FVec Ideal S192x1 .f32) (v13 : FVec Ideal S64x1 .f32)
    (a b c : FVec Ideal S192x8192 .bf16) (f : Fin 64) (q : Fin 512) :
    k0_pay101 v1 v3 v11 v13 a b c (ix2 f q) = agg (fun j => (k0_pay100 v1 v3 v11 v13 a b c) (ix2 f (col j q))) 0 := by
  rw [agg_0]
  simp only [col_zero q (by omega)]
  pointwise [k0_pay101]
  simp only [k33, k24, k34, k23, lit_half, lit_quarter]
  rfl

/-- The piece of node 1: the sum over the node's neighbours. -/
theorem agg1_1 (v1 v3 : FVec Ideal S64x192 .bf16) (v11 : FVec Ideal S192x1 .f32) (v13 : FVec Ideal S64x1 .f32)
    (a b c : FVec Ideal S192x8192 .bf16) (f : Fin 64) (q : Fin 512) :
    k0_pay102 v1 v3 v11 v13 a b c (ix2 f q) = agg (fun j => (k0_pay100 v1 v3 v11 v13 a b c) (ix2 f (col j q))) 1 := by
  rw [agg_1]
  simp only [col_zero q (by omega)]
  pointwise [k0_pay102]
  simp only [k33, k24, k34, k23, lit_half, lit_quarter]
  rfl

/-- The piece of node 2: the sum over the node's neighbours. -/
theorem agg1_2 (v1 v3 : FVec Ideal S64x192 .bf16) (v11 : FVec Ideal S192x1 .f32) (v13 : FVec Ideal S64x1 .f32)
    (a b c : FVec Ideal S192x8192 .bf16) (f : Fin 64) (q : Fin 512) :
    k0_pay104 (k0_pay100 v1 v3 v11 v13 a b c) (k0_pay103 v1 v3 v11 v13 a b c) (ix2 f q) = agg (fun j => (k0_pay100 v1 v3 v11 v13 a b c) (ix2 f (col j q))) 2 := by
  rw [agg_2]
  pointwise [k0_pay104, k0_pay103]
  simp only [k33, k24, k34, k23, lit_half, lit_quarter]
  rfl

/-- The piece of node 3: the sum over the node's neighbours. -/
theorem agg1_3 (z : FVec Ideal S64x8192 .bf16) (f : Fin 64) (q : Fin 512) :
    k0_pay105 z (ix2 f q) = agg (fun j => z (ix2 f (col j q))) 3 := by
  rw [agg_3]
  pointwise [k0_pay105]
  simp only [k33, k24, k34, k23, lit_half, lit_quarter]
  rfl

/-- The piece of node 4: the sum over the node's neighbours. -/
theorem agg1_4 (z : FVec Ideal S64x8192 .bf16) (f : Fin 64) (q : Fin 512) :
    k0_pay106 z (ix2 f q) = agg (fun j => z (ix2 f (col j q))) 4 := by
  rw [agg_4]
  pointwise [k0_pay106]
  simp only [k33, k24, k34, k23, lit_half, lit_quarter]
  rfl

/-- The piece of node 6: the sum over the node's neighbours. -/
theorem agg1_6 (z : FVec Ideal S64x8192 .bf16) (f : Fin 64) (q : Fin 512) :
    k0_pay109 z (ix2 f q) = agg (fun j => z (ix2 f (col j q))) 6 := by
  rw [agg_6]
  pointwise [k0_pay109]
  simp only [k33, k24, k34, k23, lit_half, lit_quarter]
  rfl

/-- The piece of node 7: the sum over the node's neighbours. -/
theorem agg1_7 (z : FVec Ideal S64x8192 .bf16) (f : Fin 64) (q : Fin 512) :
    k0_pay110 z (ix2 f q) = agg (fun j => z (ix2 f (col j q))) 7 := by
  rw [agg_7]
  pointwise [k0_pay110]
  simp only [k33, k24, k34, k23, lit_half, lit_quarter]
  rfl

/-- The piece of node 8: the sum over the node's neighbours. -/
theorem agg1_8 (z : FVec Ideal S64x8192 .bf16) (f : Fin 64) (q : Fin 512) :
    k0_pay111 z (ix2 f q) = agg (fun j => z (ix2 f (col j q))) 8 := by
  rw [agg_8]
  pointwise [k0_pay111]
  simp only [k33, k24, k34, k23, lit_half, lit_quarter]
  rfl

/-- The piece of node 10: the sum over the node's neighbours. -/
theorem agg1_10 (z : FVec Ideal S64x8192 .bf16) (f : Fin 64) (q : Fin 512) :
    k0_pay115 z (ix2 f q) = agg (fun j => z (ix2 f (col j q))) 10 := by
  rw [agg_10]
  pointwise [k0_pay115]
  simp only [k33, k24, k34, k23, lit_half, lit_quarter]
  rfl

/-- The piece of node 11: the sum over the node's neighbours. -/
theorem agg1_11 (z : FVec Ideal S64x8192 .bf16) (f : Fin 64) (q : Fin 512) :
    k0_pay116 z (ix2 f q) = agg (fun j => z (ix2 f (col j q))) 11 := by
  rw [agg_11]
  pointwise [k0_pay116]
  simp only [k33, k24, k34, k23, lit_half, lit_quarter]
  rfl

/-- The piece of node 12: the sum over the node's neighbours. -/
theorem agg1_12 (z : FVec Ideal S64x8192 .bf16) (f : Fin 64) (q : Fin 512) :
    k0_pay117 z (ix2 f q) = agg (fun j => z (ix2 f (col j q))) 12 := by
  rw [agg_12]
  pointwise [k0_pay117]
  simp only [k33, k24, k34, k23, lit_half, lit_quarter]
  rfl

/-- The piece of node 5: the sum over the node's neighbours. -/
theorem agg1_5 (z : FVec Ideal S64x8192 .bf16) (f : Fin 64) (q : Fin 512) :
    k0_pay108 z (k0_pay107 z) (ix2 f q) = agg (fun j => z (ix2 f (col j q))) 5 := by
  rw [agg_5]
  pointwise [k0_pay107, k0_pay108]
  simp only [k33, k24, k34, k23, lit_half, lit_quarter]
  rfl

/-- The piece of node 9: the sum over the node's neighbours. -/
theorem agg1_9 (z : FVec Ideal S64x8192 .bf16) (f : Fin 64) (q : Fin 512) :
    k0_pay114 z (k0_pay112 z) (k0_pay113 z) (ix2 f q) = agg (fun j => z (ix2 f (col j q))) 9 := by
  rw [agg_9]
  pointwise [k0_pay112, k0_pay113, k0_pay114]
  simp only [k33, k24, k34, k23, lit_half, lit_quarter]
  rfl

/-- The piece of node 13: the sum over the node's neighbours. -/
theorem agg1_13 (z : FVec Ideal S64x8192 .bf16) (f : Fin 64) (q : Fin 512) :
    addf (k0_pay118 z) (mulf (k0_pay119 z) k0_pay120) (ix2 f q) = agg (fun j => z (ix2 f (col j q))) 13 := by
  rw [agg_13]
  pointwise [k0_pay118, k0_pay119, k0_pay120]
  simp only [k33, k24, k34, k23, lit_half, lit_quarter]
  rfl

end Cert.KernelIdeal.Value
-- ==== Proof.Val.Agg2.lean ====
/-
  The second aggregation: each piece of 512 columns is the sum over a node's neighbours.
-/
module

public import proofs.«01_k».proof.Proof.Val.Consts

set_option maxRecDepth 16384

@[expose] public section

namespace Cert.KernelIdeal.Value

open Cert.KernelIdeal Cert.KernelIdeal.Gen Idealize.ShloMosaic Cert.Maths

/-- The piece of node 0: the sum over the node's neighbours. -/
theorem agg2_0 (v5 : FVec Ideal S64x128 .bf16) (v15 : FVec Ideal S128x1 .f32) (v517 : FVec Ideal S64x8192 .bf16)
    (v524 v539 v554 v565 v576 v591 v606 v617 v628 v639 v650 v661 v672 v679 v680 v681 : FVec Ideal S64x512 .bf16)
    (f : Fin 128) (q : Fin 512) :
    k0_pay122 v5 v15 v517 v524 v539 v554 v565 v576 v591 v606 v617 v628 v639 v650 v661 v672 v679 v680 v681 (ix2 f q) = agg (fun j => (k0_pay121 v5 v15 v517 v524 v539 v554 v565 v576 v591 v606 v617 v628 v639 v650 v661 v672 v679 v680 v681) (ix2 f (col j q))) 0 := by
  rw [agg_0]
  simp only [col_zero q (by omega)]
  pointwise [k0_pay122]
  simp only [k33, k24, k34, k23, lit_half, lit_quarter]
  rfl

/-- The piece of node 1: the sum over the node's neighbours. -/
theorem agg2_1 (v5 : FVec Ideal S64x128 .bf16) (v15 : FVec Ideal S128x1 .f32) (v517 : FVec Ideal S64x8192 .bf16)
    (v524 v539 v554 v565 v576 v591 v606 v617 v628 v639 v650 v661 v672 v679 v680 v681 : FVec Ideal S64x512 .bf16)
    (f : Fin 128) (q : Fin 512) :
    k0_pay126 (k0_pay123 v5 v15 v517 v524 v539 v554 v565 v576 v591 v606 v617 v628 v639 v650 v661 v672 v679 v680 v681)
      (k0_pay124 v5 v15 v517 v524 v539 v554 v565 v576 v591 v606 v617 v628 v639 v650 v661 v672 v679 v680 v681)
      k0_pay125 (ix2 f q) = agg (fun j => (k0_pay121 v5 v15 v517 v524 v539 v554 v565 v576 v591 v606 v617 v628 v639 v650 v661 v672 v679 v680 v681) (ix2 f (col j q))) 1 := by
  rw [agg_1]
  simp only [col_zero q (by omega)]
  pointwise [k0_pay123, k0_pay124, k0_pay125, k0_pay126]
  simp only [k33, k24, k34, k23, lit_half, lit_quarter]
  rfl

/-- The piece of node 2: the sum over the node's neighbours. -/
theorem agg2_2 (z : FVec Ideal S128x8192 .bf16) (f : Fin 128) (q : Fin 512) :
    k0_pay127 z (ix2 f q) = agg (fun j => z (ix2 f (col j q))) 2 := by
  rw [agg_2]
  pointwise [k0_pay127]
  simp only [k33, k24, k34, k23, lit_half, lit_quarter]
  rfl

/-- The piece of node 3: the sum over the node's neighbours. -/
theorem agg2_3 (z : FVec Ideal S128x8192 .bf16) (f : Fin 128) (q : Fin 512) :
    k0_pay128 z (ix2 f q) = agg (fun j => z (ix2 f (col j q))) 3 := by
  rw [agg_3]
  pointwise [k0_pay128]
  simp only [k33, k24, k34, k23, lit_half, lit_quarter]
  rfl

/-- The piece of node 4: the sum over the node's neighbours. -/
theorem agg2_4 (z : FVec Ideal S128x8192 .bf16) (f : Fin 128) (q : Fin 512) :
    k0_pay129 z (ix2 f q) = agg (fun j => z (ix2 f (col j q))) 4 := by
  rw [agg_4]
  pointwise [k0_pay129]
  simp only [k33, k24, k34, k23, lit_half, lit_quarter]
  rfl

/-- The piece of node 6: the sum over the node's neighbours. -/
theorem agg2_6 (z : FVec Ideal S128x8192 .bf16) (f : Fin 128) (q : Fin 512) :
    k0_pay133 z (ix2 f q) = agg (fun j => z (ix2 f (col j q))) 6 := by
  rw [agg_6]
  pointwise [k0_pay133]
  simp only [k33, k24, k34, k23, lit_half, lit_quarter]
  rfl

/-- The piece of node 7: the sum over the node's neighbours. -/
theorem agg2_7 (z : FVec Ideal S128x8192 .bf16) (f : Fin 128) (q : Fin 512) :
    k0_pay134 z (ix2 f q) = agg (fun j => z (ix2 f (col j q))) 7 := by
  rw [agg_7]
  pointwise [k0_pay134]
  simp only [k33, k24, k34, k23, lit_half, lit_quarter]
  rfl

/-- The piece of node 8: the sum over the node's neighbours. -/
theorem agg2_8 (z : FVec Ideal S128x8192 .bf16) (f : Fin 128) (q : Fin 512) :
    k0_pay135 z (ix2 f q) = agg (fun j => z (ix2 f (col j q))) 8 := by
  rw [agg_8]
  pointwise [k0_pay135]
  simp only [k33, k24, k34, k23, lit_half, lit_quarter]
  rfl

/-- The piece of node 10: the sum over the node's neighbours. -/
theorem agg2_10 (z : FVec Ideal S128x8192 .bf16) (f : Fin 128) (q : Fin 512) :
    k0_pay139 z (ix2 f q) = agg (fun j => z (ix2 f (col j q))) 10 := by
  rw [agg_10]
  pointwise [k0_pay139]
  simp only [k33, k24, k34, k23, lit_half, lit_quarter]
  rfl

/-- The piece of node 11: the sum over the node's neighbours. -/
theorem agg2_11 (z : FVec Ideal S128x8192 .bf16) (f : Fin 128) (q : Fin 512) :
    k0_pay140 z (ix2 f q) = agg (fun j => z (ix2 f (col j q))) 11 := by
  rw [agg_11]
  pointwise [k0_pay140]
  simp only [k33, k24, k34, k23, lit_half, lit_quarter]
  rfl

/-- The piece of node 12: the sum over the node's neighbours. -/
theorem agg2_12 (z : FVec Ideal S128x8192 .bf16) (f : Fin 128) (q : Fin 512) :
    k0_pay141 z (ix2 f q) = agg (fun j => z (ix2 f (col j q))) 12 := by
  rw [agg_12]
  pointwise [k0_pay141]
  simp only [k33, k24, k34, k23, lit_half, lit_quarter]
  rfl

/-- The piece of node 13 without its last term. -/
theorem agg2_13_part (z : FVec Ideal S128x8192 .bf16) (f : Fin 128) (q : Fin 512) :
    k0_pay142 z (ix2 f q) = z (ix2 f (col 12 q)) * ((1 / 3 : ℝ) : EReal) + z (ix2 f (col 13 q)) * ((1 / 3 : ℝ) : EReal) := by
  pointwise [k0_pay142]
  simp only [k33]
  rfl

/-- The piece of node 5: the sum over the node's neighbours. -/
theorem agg2_5 (z : FVec Ideal S128x8192 .bf16) (f : Fin 128) (q : Fin 512) :
    k0_pay132 z (k0_pay130 z) (k0_pay131 z) (Scalar.ofBits .bf16 0x3E80#16) (ix2 f q) = agg (fun j => z (ix2 f (col j q))) 5 := by
  rw [agg_5]
  pointwise [k0_pay130, k0_pay131, k0_pay132]
  simp only [k33, k24, k34, k23, lit_half, lit_quarter]
  rfl

/-- The piece of node 9: the sum over the node's neighbours. -/
theorem agg2_9 (z : FVec Ideal S128x8192 .bf16) (f : Fin 128) (q : Fin 512) :
    k0_pay138 z (k0_pay136 z) (k0_pay137 z) (ix2 f q) = agg (fun j => z (ix2 f (col j q))) 9 := by
  rw [agg_9]
  pointwise [k0_pay136, k0_pay137, k0_pay138]
  simp only [k33, k24, k34, k23, lit_half, lit_quarter]
  rfl

end Cert.KernelIdeal.Value
-- ==== Proof.Val.Block.lean ====
/-
  What one block of the kernel computes, layer by layer, from the rows of its scratch and from its weights.
-/
module

public import proofs.«01_k».proof.Proof.Val.Net
public import proofs.«01_k».proof.Proof.Val.Stack
public import proofs.«01_k».proof.Proof.Val.Agg1
public import proofs.«01_k».proof.Proof.Val.Agg2

set_option maxRecDepth 16384

@[expose] public section

namespace Cert.KernelIdeal.Value

open Cert.KernelIdeal Cert.KernelIdeal.Gen Idealize.ShloMosaic Cert.Maths

/-- Row `c` of the group `k` of three groups of 64 rows. -/
def row (k : Fin 3) (c : Fin 64) : Fin 192 := ⟨64 * k.val + c.val, by omega⟩

/-- A sum over 192 rows, group by group. -/
theorem sum192 (f : Fin 192 → EReal) :
    ∑ s, f s = ∑ c, f (row 0 c) + ∑ c, f (row 1 c) + ∑ c, f (row 2 c) := by
  rw [Fin.sum_univ_add (a := 128) (b := 64) f, Fin.sum_univ_add (a := 64) (b := 64) fun i => f (Fin.castAdd 64 i)]
  refine congrArg₂ (· + ·) (congrArg₂ (· + ·) ?_ ?_) ?_
  · exact Finset.sum_congr rfl fun c _ => congrArg f (Fin.ext (by simp [row] <;> omega))
  · exact Finset.sum_congr rfl fun c _ => congrArg f (Fin.ext (by simp [row] <;> omega))
  · exact Finset.sum_congr rfl fun c _ => congrArg f (Fin.ext (by simp [row] <;> omega))

/-- The two convolutions: from scratch rows `D l c q` and the weights, the features of the node and batch row at column `q`. -/
theorem z_at (v1 v3 : FVec Ideal S64x192 .bf16) (v11 : FVec Ideal S192x1 .f32) (v13 : FVec Ideal S64x1 .f32)
    (a b c : FVec Ideal S192x8192 .bf16) (W1 W2 : Fin 64 → Fin 64 → Fin 3 → EReal) (b1 b2 : Fin 64 → EReal)
    (D : Fin 5 → Fin 64 → Fin 8192 → EReal)
    (h1 : ∀ o c k, v1 (ix2 o (row k c)) = W1 o c k) (h3 : ∀ o c k, v3 (ix2 o (row k c)) = W2 o c k)
    (h11 : ∀ k c, v11 (ix2 (row k c) 0) = b1 c) (h13 : ∀ c, v13 (ix2 c 0) = b2 c)
    (ha : ∀ k s q, a (ix2 (row k s) q) = D (step 0 k) s q) (hb : ∀ k s q, b (ix2 (row k s) q) = D (step 1 k) s q)
    (hc : ∀ k s q, c (ix2 (row k s) q) = D (step 2 k) s q) (f : Fin 64) (q : Fin 8192) :
    k0_pay100 v1 v3 v11 v13 a b c (ix2 f q) = feat W1 b1 W2 b2 (fun l s => D l s q) f := by
  pointwise [k0_pay100]
  rw [sum192]
  unfold feat conv taps
  rw [h13]
  congr 2
  refine congrArg₂ (· + ·) (congrArg₂ (· + ·) ?_ ?_) ?_
  · refine Finset.sum_congr rfl fun s _ => ?_
    have e : ∀ h, (⟨(row 0 s).val, h⟩ : Fin 64) = s := fun h => Fin.ext (by simp [row])
    rw [h3, dif_pos (by simp [row]), h11, sum192]
    simp only [e, ha, h1]
  · refine Finset.sum_congr rfl fun s _ => ?_
    have e : ∀ h, (⟨(row 1 s).val - 64, h⟩ : Fin 64) = s := fun h => Fin.ext (by simp [row])
    rw [h3, dif_neg (by simp [row]), dif_pos (by simp [row]), h11, sum192]
    simp only [e, hb, h1]
  · refine Finset.sum_congr rfl fun s _ => ?_
    have e : ∀ h, (⟨(row 2 s).val - 64 - 64, h⟩ : Fin 64) = s := fun h => Fin.ext (by simp [row]; omega)
    rw [h3, dif_neg (by simp [row]; omega), dif_neg (by simp [row]; omega), h11, sum192]
    simp only [e, hc, h1]

/-- The first graph convolution: from the features and the pieces of their aggregation. -/
theorem g1_at (v5 : FVec Ideal S64x128 .bf16) (v15 : FVec Ideal S128x1 .f32) (v517 : FVec Ideal S64x8192 .bf16)
    (v524 v539 v554 v565 v576 v591 v606 v617 v628 v639 v650 v661 v672 v679 v680 v681 : FVec Ideal S64x512 .bf16)
    (W : Fin 64 → Fin 128 → EReal) (bias : Fin 128 → EReal)
    (h5 : ∀ c f, v5 (ix2 c f) = W c f) (h15 : ∀ f, v15 (ix2 f 0) = bias f) (hz : ∀ c q, 0 ≤ v517 (ix2 c q))
    (p0 : ∀ f q, v524 (ix2 f q) = agg (fun j => v517 (ix2 f (col j q))) 0)
    (p1 : ∀ f q, v539 (ix2 f q) = agg (fun j => v517 (ix2 f (col j q))) 1)
    (p2 : ∀ f q, v554 (ix2 f q) = agg (fun j => v517 (ix2 f (col j q))) 2)
    (p3 : ∀ f q, v565 (ix2 f q) = agg (fun j => v517 (ix2 f (col j q))) 3)
    (p4 : ∀ f q, v576 (ix2 f q) = agg (fun j => v517 (ix2 f (col j q))) 4)
    (p5 : ∀ f q, v591 (ix2 f q) = agg (fun j => v517 (ix2 f (col j q))) 5)
    (p6 : ∀ f q, v606 (ix2 f q) = agg (fun j => v517 (ix2 f (col j q))) 6)
    (p7 : ∀ f q, v617 (ix2 f q) = agg (fun j => v517 (ix2 f (col j q))) 7)
    (p8 : ∀ f q, v628 (ix2 f q) = agg (fun j => v517 (ix2 f (col j q))) 8)
    (p9 : ∀ f q, v639 (ix2 f q) = agg (fun j => v517 (ix2 f (col j q))) 9)
    (p10 : ∀ f q, v650 (ix2 f q) = agg (fun j => v517 (ix2 f (col j q))) 10)
    (p11 : ∀ f q, v661 (ix2 f q) = agg (fun j => v517 (ix2 f (col j q))) 11)
    (p12 : ∀ f q, v672 (ix2 f q) = agg (fun j => v517 (ix2 f (col j q))) 12)
    (p13 : ∀ f q, addf v679 (mulf v680 v681) (ix2 f q) = agg (fun j => v517 (ix2 f (col j q))) 13)
    (f : Fin 128) (n : Fin 16) (q : Fin 512) :
    k0_pay121 v5 v15 v517 v524 v539 v554 v565 v576 v591 v606 v617 v628 v639 v650 v661 v672 v679 v680 v681 (ix2 f (col n q))
      = gcn W bias (fun j c => v517 (ix2 c (col j q))) n f := by
  simp only [k0_pay121]
  generalize hC : concatenate S64x8192 1 _ _ = C
  have e : ∀ c, C (ix2 c (col n q)) = agg (fun j => v517 (ix2 c (col j q))) n := fun c => by
    rw [← hC]
    refine stack64 (G := fun c n q => agg (fun j => v517 (ix2 c (col j q))) n) (f := c) (n := n) (q := q)
      (h0 := p0) (h1 := p1) (h2 := p2) (h3 := p3) (h4 := p4) (h5 := p5) (h6 := p6) (h7 := p7) (h8 := p8) (h9 := p9) (h10 := p10) (h11 := p11) (h12 := p12) (h13 := p13) (h14 := ?_) (h15 := ?_) ..
    · intro f q
      rw [agg_14]
      pointwise
      simp only [k33, k23]
      rfl
    · intro f q
      rw [agg_15]
      pointwise
      simp only [k23, lit_half]
      rfl
  pointwise
  simp only [e, h5, h15]
  rw [agg_first (fun c => W c f) (fun j c => v517 (ix2 c (col j q))) (fun j c => hz _ _) n]
  rfl

/-- The second graph convolution and the linear layer: from the first one's result and the pieces of its aggregation. -/
theorem y_at (v7 : FVec Ideal S128x128 .bf16) (v9 : FVec Ideal S128x16 .bf16) (v17 : FVec Ideal S128x1 .f32)
    (v19 : FVec Ideal S16x1 .f32) (v708 : FVec Ideal S128x8192 .bf16)
    (v715 v730 v745 v756 v767 v782 v797 v808 v819 v830 v841 v852 v863 v870 : FVec Ideal S128x512 .bf16)
    (W : Fin 128 → Fin 128 → EReal) (bias : Fin 128 → EReal) (Wl : Fin 128 → Fin 16 → EReal) (bl : Fin 16 → EReal)
    (h7 : ∀ c f, v7 (ix2 c f) = W c f) (h17 : ∀ f, v17 (ix2 f 0) = bias f)
    (h9 : ∀ f o, v9 (ix2 f o) = Wl f o) (h19 : ∀ o, v19 (ix2 o 0) = bl o) (hz : ∀ c q, 0 ≤ v708 (ix2 c q))
    (p0 : ∀ f q, v715 (ix2 f q) = agg (fun j => v708 (ix2 f (col j q))) 0)
    (p1 : ∀ f q, v730 (ix2 f q) = agg (fun j => v708 (ix2 f (col j q))) 1)
    (p2 : ∀ f q, v745 (ix2 f q) = agg (fun j => v708 (ix2 f (col j q))) 2)
    (p3 : ∀ f q, v756 (ix2 f q) = agg (fun j => v708 (ix2 f (col j q))) 3)
    (p4 : ∀ f q, v767 (ix2 f q) = agg (fun j => v708 (ix2 f (col j q))) 4)
    (p5 : ∀ f q, v782 (ix2 f q) = agg (fun j => v708 (ix2 f (col j q))) 5)
    (p6 : ∀ f q, v797 (ix2 f q) = agg (fun j => v708 (ix2 f (col j q))) 6)
    (p7 : ∀ f q, v808 (ix2 f q) = agg (fun j => v708 (ix2 f (col j q))) 7)
    (p8 : ∀ f q, v819 (ix2 f q) = agg (fun j => v708 (ix2 f (col j q))) 8)
    (p9 : ∀ f q, v830 (ix2 f q) = agg (fun j => v708 (ix2 f (col j q))) 9)
    (p10 : ∀ f q, v841 (ix2 f q) = agg (fun j => v708 (ix2 f (col j q))) 10)
    (p11 : ∀ f q, v852 (ix2 f q) = agg (fun j => v708 (ix2 f (col j q))) 11)
    (p12 : ∀ f q, v863 (ix2 f q) = agg (fun j => v708 (ix2 f (col j q))) 12)
    (p13 : ∀ f q, v870 (ix2 f q) = v708 (ix2 f (col 12 q)) * ((1 / 3 : ℝ) : EReal) + v708 (ix2 f (col 13 q)) * ((1 / 3 : ℝ) : EReal))
    (o : Fin 16) (n : Fin 16) (q : Fin 512) :
    k0_pay143 v7 v9 v17 v19 v708 v715 v730 v745 v756 v767 v782 v797 v808 v819 v830 v841 v852 v863 v870 (ix2 o (col n q))
      = lin Wl bl (gcn W bias (fun j c => v708 (ix2 c (col j q))) n) o := by
  simp only [k0_pay143]
  generalize hC : concatenate S128x8192 1 _ _ = C
  have e : ∀ c, C (ix2 c (col n q)) = agg (fun j => v708 (ix2 c (col j q))) n := fun c => by
    rw [← hC]
    refine stack128 (G := fun c n q => agg (fun j => v708 (ix2 c (col j q))) n) (f := c) (n := n) (q := q)
      (h0 := p0) (h1 := p1) (h2 := p2) (h3 := p3) (h4 := p4) (h5 := p5) (h6 := p6) (h7 := p7) (h8 := p8) (h9 := p9) (h10 := p10) (h11 := p11) (h12 := p12) (h13 := ?_) (h14 := ?_) (h15 := ?_) ..
    · intro f q
      rw [agg_13]
      pointwise
      rw [p13]
      simp only [k33]
      rfl
    · intro f q
      rw [agg_14]
      pointwise
      simp only [k33, k23]
      rfl
    · intro f q
      rw [agg_15]
      pointwise
      simp only [k23, lit_half]
      rfl
  pointwise
  simp only [e, h7, h9, h17, h19]
  unfold lin
  refine congrArg Ideal.tanh (congrArg (· + bl o) (Finset.sum_congr rfl fun f _ => ?_))
  rw [agg_first (fun c => W c f) (fun j c => v708 (ix2 c (col j q))) (fun j c => hz _ _) n, mul_comm]
  rfl

/-- The mean over the nodes: the sixteen slices summed one after another, times one sixteenth. -/
theorem mean_at (v7 : FVec Ideal S128x128 .bf16) (v9 : FVec Ideal S128x16 .bf16) (v17 : FVec Ideal S128x1 .f32)
    (v19 : FVec Ideal S16x1 .f32) (v708 : FVec Ideal S128x8192 .bf16)
    (v715 v730 v745 v756 v767 v782 v797 v808 v819 v830 v841 v852 v863 v870 : FVec Ideal S128x512 .bf16)
    (o : Fin 16) (q : Fin 512) :
    k0_pay1 (k0_pay143 v7 v9 v17 v19 v708 v715 v730 v745 v756 v767 v782 v797 v808 v819 v830 v841 v852 v863 v870) (k0_pay144 v7 v9 v17 v19 v708 v715 v730 v745 v756 v767 v782 v797 v808 v819 v830 v841 v852 v863 v870) (k0_pay145 v7 v9 v17 v19 v708 v715 v730 v745 v756 v767 v782 v797 v808 v819 v830 v841 v852 v863 v870) (ix2 o q)
      = (∑ n, k0_pay143 v7 v9 v17 v19 v708 v715 v730 v745 v756 v767 v782 v797 v808 v819 v830 v841 v852 v863 v870 (ix2 o (col n q))) * ((1 / 16 : ℝ) : EReal) := by
  pointwise [k0_pay1, k0_pay144, k0_pay145]
  generalize k0_pay143 v7 v9 v17 v19 v708 v715 v730 v745 v756 v767 v782 v797 v808 v819 v830 v841 v852 v863 v870 = Y
  rw [lit_sixteenth]
  simp only [Fin.sum_univ_succ, Fin.sum_univ_zero, add_zero]
  refine congrArg (· * ((1 / 16 : ℝ) : EReal)) ?_
  simp only [← add_assoc]
  refine Eq.trans ?_ (congrArg (fun x => x + _ + _ + _ + _ + _ + _ + _ + _ + _ + _ + _ + _ + _ + _ + _) (congrArg (fun i => Y (ix2 o i)) (col_zero q (by omega)))).symm
  rfl

end Cert.KernelIdeal.Value
-- ==== Proof.Val.Scratch.lean ====
/-
  The scratch of one block: eighty stores, one per step and node, which together hold the input block with its steps and
  features along the rows and its nodes and batch rows along the columns.
-/
module

public import proofs.«01_k».proof.Proof.Val.Block
public import Idealize.ShloMosaic.Lib.Pipeline.ValueKit

set_option maxRecDepth 16384

@[expose] public section

namespace Cert.KernelIdeal.Value

open Cert.KernelIdeal Cert.KernelIdeal.Gen Idealize.ShloMosaic Cert.Maths

/-- What the scratch holds: the block's element of step `row / 64`, node `column / 512`, feature `row mod 64` and batch row
    `column mod 512`. -/
def held (x0 : Vec Ideal S5x16x64x512 .f32) : S320x8192.Idx → EReal := fun i =>
  x0 (ix4 ⟨(i 0).val / 64, by have : (i 0).val < 320 := (i 0).isLt; omega⟩ ⟨(i 1).val / 512, by have : (i 1).val < 8192 := (i 1).isLt; omega⟩
    ⟨(i 0).val % 64, by omega⟩ ⟨(i 1).val % 512, by omega⟩)

/-- A load of one step and node of the input block. -/
theorem load_at (arg1 : Memref sig .tc .vmem S5x16x64x512 .f32) (harg1 : arg1.IsWhole) (x0 : Vec Ideal S5x16x64x512 .f32)
    (l t : ℕ) (inb : ∀ a, (![l, t, 0, 0] : Fin 4 → ℕ) a + S1x1x64x512.size a ≤ S5x16x64x512.size a) (hl : l < 5) (ht : t < 16) :
    View.readAt (Elt Ideal) arg1.view (Rect.unit (s := S5x16x64x512) ![l, t, 0, 0] S1x1x64x512.size inb).toLoadRect (harg1.unread x0)
      = fun j : S1x1x64x512.Idx => x0 (ix4 ⟨l, hl⟩ ⟨t, ht⟩ (j 2) (j 3)) := by
  funext j
  rw [View.readAt_eq_ld, harg1.read_unread]
  refine View.ld_unit_apply_of x0 _ _ _ _ _ fun a => ?_
  have h0 : (j 0).val < 1 := (j 0).isLt
  have h1 : (j 1).val < 1 := (j 1).isLt
  fin_cases a
  · show l = l + (j 0).val; omega
  · show t = t + (j 1).val; omega
  · show (j 2).val = 0 + (j 2).val; omega
  · show (j 3).val = 0 + (j 3).val; omega

/-- A stored piece, in its place. -/
theorem tile (x0 : Vec Ideal S5x16x64x512 .f32) (y : S320x8192.Idx) (R C : ℕ) (l : Fin 5) (t : Fin 16)
    (w : S64x512.Idx → EReal) (hR : R = 64 * l.val) (hC : C = 512 * t.val) (hw : ∀ c b, w (ix2 c b) = x0 (ix4 l t c b)) :
    View.TileAt (Val := Elt Ideal) (e := .bf16) y ![R, C] S64x512.size w (held x0 y) := by
  intro x hx
  have e0 : (y 0).val = 64 * l.val + (x 0).val := by rw [← hR]; exact hx 0
  have e1 : (y 1).val = 512 * t.val + (x 1).val := by rw [← hC]; exact hx 1
  have b0 : (x 0).val < 64 := (x 0).isLt
  have b1 : (x 1).val < 512 := (x 1).isLt
  have hxx : x = (ix2 (x 0) (x 1) : S64x512.Idx) := by funext a; fin_cases a <;> rfl
  refine (congrArg w hxx).trans ((hw (x 0) (x 1)).trans ?_)
  unfold held
  congr 1
  funext a
  fin_cases a
  · exact Fin.ext (by show l.val = (y 0).val / 64; omega)
  · exact Fin.ext (by show t.val = (y 1).val / 512; omega)
  · exact Fin.ext (by show (x 0).val = (y 0).val % 64; omega)
  · exact Fin.ext (by show (x 1).val = (y 1).val % 512; omega)

/-- The scratch after the eighty stores. -/
theorem scratch_eq (c : Dev nD) (arg1 : Memref sig .tc .vmem S5x16x64x512 .f32) (harg1 : arg1.IsWhole)
    (x0 : Vec Ideal S5x16x64x512 .f32) (y : S320x8192.Idx) :
    View.canon (kernelRun0_A.sl.HS0_80 c arg1 harg1 x0) y = held x0 y := by
  unfold kernelRun0_A.sl.HS0_80
  refine View.canon_eq_of_allAt _ _ _ (View.cover_of_tiled_head _ _ _ (by rfl) y) ?_
  refine View.allAt_cons_unit _ _ _ _ _ (tile x0 y 256 7680 4 15 _ rfl rfl fun c b => ?_) ?_
  · simp only [kernelRun0_A.sl.r_20, load_at arg1 harg1 x0 4 15 _ (by decide) (by decide)]
    pointwise [k0_pay99]
  refine View.allAt_cons_unit _ _ _ _ _ (tile x0 y 256 7168 4 14 _ rfl rfl fun c b => ?_) ?_
  · simp only [load_at arg1 harg1 x0 4 14 _ (by decide) (by decide)]
    pointwise [k0_pay98]
  refine View.allAt_cons_unit _ _ _ _ _ (tile x0 y 256 6656 4 13 _ rfl rfl fun c b => ?_) ?_
  · simp only [load_at arg1 harg1 x0 4 13 _ (by decide) (by decide)]
    pointwise [k0_pay97]
  refine View.allAt_cons_unit _ _ _ _ _ (tile x0 y 256 6144 4 12 _ rfl rfl fun c b => ?_) ?_
  · simp only [load_at arg1 harg1 x0 4 12 _ (by decide) (by decide)]
    pointwise [k0_pay96]
  refine View.allAt_cons_unit _ _ _ _ _ (tile x0 y 256 5632 4 11 _ rfl rfl fun c b => ?_) ?_
  · simp only [load_at arg1 harg1 x0 4 11 _ (by decide) (by decide)]
    pointwise [k0_pay95]
  refine View.allAt_cons_unit _ _ _ _ _ (tile x0 y 256 5120 4 10 _ rfl rfl fun c b => ?_) ?_
  · simp only [load_at arg1 harg1 x0 4 10 _ (by decide) (by decide)]
    pointwise [k0_pay94]
  refine View.allAt_cons_unit _ _ _ _ _ (tile x0 y 256 4608 4 9 _ rfl rfl fun c b => ?_) ?_
  · simp only [load_at arg1 harg1 x0 4 9 _ (by decide) (by decide)]
    pointwise [k0_pay93]
  refine View.allAt_cons_unit _ _ _ _ _ (tile x0 y 256 4096 4 8 _ rfl rfl fun c b => ?_) ?_
  · simp only [load_at arg1 harg1 x0 4 8 _ (by decide) (by decide)]
    pointwise [k0_pay92]
  refine View.allAt_cons_unit _ _ _ _ _ (tile x0 y 256 3584 4 7 _ rfl rfl fun c b => ?_) ?_
  · simp only [load_at arg1 harg1 x0 4 7 _ (by decide) (by decide)]
    pointwise [k0_pay91]
  refine View.allAt_cons_unit _ _ _ _ _ (tile x0 y 256 3072 4 6 _ rfl rfl fun c b => ?_) ?_
  · simp only [kernelRun0_A.sl.r_19, load_at arg1 harg1 x0 4 6 _ (by decide) (by decide)]
    pointwise [k0_pay90, k0_pay89]
  refine View.allAt_cons_unit _ _ _ _ _ (tile x0 y 256 2560 4 5 _ rfl rfl fun c b => ?_) ?_
  · simp only [load_at arg1 harg1 x0 4 5 _ (by decide) (by decide)]
    pointwise [k0_pay88]
  refine View.allAt_cons_unit _ _ _ _ _ (tile x0 y 256 2048 4 4 _ rfl rfl fun c b => ?_) ?_
  · simp only [load_at arg1 harg1 x0 4 4 _ (by decide) (by decide)]
    pointwise [k0_pay87]
  refine View.allAt_cons_unit _ _ _ _ _ (tile x0 y 256 1536 4 3 _ rfl rfl fun c b => ?_) ?_
  · simp only [load_at arg1 harg1 x0 4 3 _ (by decide) (by decide)]
    pointwise [k0_pay86]
  refine View.allAt_cons_unit _ _ _ _ _ (tile x0 y 256 1024 4 2 _ rfl rfl fun c b => ?_) ?_
  · simp only [load_at arg1 harg1 x0 4 2 _ (by decide) (by decide)]
    pointwise [k0_pay85]
  refine View.allAt_cons_unit _ _ _ _ _ (tile x0 y 256 512 4 1 _ rfl rfl fun c b => ?_) ?_
  · simp only [load_at arg1 harg1 x0 4 1 _ (by decide) (by decide)]
    pointwise [k0_pay84]
  refine View.allAt_cons_unit _ _ _ _ _ (tile x0 y 256 0 4 0 _ rfl rfl fun c b => ?_) ?_
  · simp only [load_at arg1 harg1 x0 4 0 _ (by decide) (by decide)]
    pointwise [k0_pay83]
  refine View.allAt_cons_unit _ _ _ _ _ (tile x0 y 192 7680 3 15 _ rfl rfl fun c b => ?_) ?_
  · simp only [load_at arg1 harg1 x0 3 15 _ (by decide) (by decide)]
    pointwise [k0_pay82]
  refine View.allAt_cons_unit _ _ _ _ _ (tile x0 y 192 7168 3 14 _ rfl rfl fun c b => ?_) ?_
  · simp only [load_at arg1 harg1 x0 3 14 _ (by decide) (by decide)]
    pointwise [k0_pay81]
  refine View.allAt_cons_unit _ _ _ _ _ (tile x0 y 192 6656 3 13 _ rfl rfl fun c b => ?_) ?_
  · simp only [kernelRun0_A.sl.r_18, load_at arg1 harg1 x0 3 13 _ (by decide) (by decide)]
    pointwise [k0_pay80, k0_pay79]
  refine View.allAt_cons_unit _ _ _ _ _ (tile x0 y 192 6144 3 12 _ rfl rfl fun c b => ?_) ?_
  · simp only [load_at arg1 harg1 x0 3 12 _ (by decide) (by decide)]
    pointwise [k0_pay78]
  refine View.allAt_cons_unit _ _ _ _ _ (tile x0 y 192 5632 3 11 _ rfl rfl fun c b => ?_) ?_
  · simp only [load_at arg1 harg1 x0 3 11 _ (by decide) (by decide)]
    pointwise [k0_pay77]
  refine View.allAt_cons_unit _ _ _ _ _ (tile x0 y 192 5120 3 10 _ rfl rfl fun c b => ?_) ?_
  · simp only [load_at arg1 harg1 x0 3 10 _ (by decide) (by decide)]
    pointwise [k0_pay76]
  refine View.allAt_cons_unit _ _ _ _ _ (tile x0 y 192 4608 3 9 _ rfl rfl fun c b => ?_) ?_
  · simp only [load_at arg1 harg1 x0 3 9 _ (by decide) (by decide)]
    pointwise [k0_pay75]
  refine View.allAt_cons_unit _ _ _ _ _ (tile x0 y 192 4096 3 8 _ rfl rfl fun c b => ?_) ?_
  · simp only [kernelRun0_A.sl.r_17, load_at arg1 harg1 x0 3 8 _ (by decide) (by decide)]
    pointwise [k0_pay74, k0_pay73]
  refine View.allAt_cons_unit _ _ _ _ _ (tile x0 y 192 3584 3 7 _ rfl rfl fun c b => ?_) ?_
  · simp only [load_at arg1 harg1 x0 3 7 _ (by decide) (by decide)]
    pointwise [k0_pay72]
  refine View.allAt_cons_unit _ _ _ _ _ (tile x0 y 192 3072 3 6 _ rfl rfl fun c b => ?_) ?_
  · simp only [load_at arg1 harg1 x0 3 6 _ (by decide) (by decide)]
    pointwise [k0_pay71]
  refine View.allAt_cons_unit _ _ _ _ _ (tile x0 y 192 2560 3 5 _ rfl rfl fun c b => ?_) ?_
  · simp only [load_at arg1 harg1 x0 3 5 _ (by decide) (by decide)]
    pointwise [k0_pay70]
  refine View.allAt_cons_unit _ _ _ _ _ (tile x0 y 192 2048 3 4 _ rfl rfl fun c b => ?_) ?_
  · simp only [load_at arg1 harg1 x0 3 4 _ (by decide) (by decide)]
    pointwise [k0_pay69]
  refine View.allAt_cons_unit _ _ _ _ _ (tile x0 y 192 1536 3 3 _ rfl rfl fun c b => ?_) ?_
  · simp only [load_at arg1 harg1 x0 3 3 _ (by decide) (by decide)]
    pointwise [k0_pay68]
  refine View.allAt_cons_unit _ _ _ _ _ (tile x0 y 192 1024 3 2 _ rfl rfl fun c b => ?_) ?_
  · simp only [load_at arg1 harg1 x0 3 2 _ (by decide) (by decide)]
    pointwise [k0_pay67]
  refine View.allAt_cons_unit _ _ _ _ _ (tile x0 y 192 512 3 1 _ rfl rfl fun c b => ?_) ?_
  · simp only [load_at arg1 harg1 x0 3 1 _ (by decide) (by decide)]
    pointwise [k0_pay66]
  refine View.allAt_cons_unit _ _ _ _ _ (tile x0 y 192 0 3 0 _ rfl rfl fun c b => ?_) ?_
  · simp only [load_at arg1 harg1 x0 3 0 _ (by decide) (by decide)]
    pointwise [k0_pay65]
  refine View.allAt_cons_unit _ _ _ _ _ (tile x0 y 128 7680 2 15 _ rfl rfl fun c b => ?_) ?_
  · simp only [kernelRun0_A.sl.r_16, load_at arg1 harg1 x0 2 15 _ (by decide) (by decide)]
    pointwise [k0_pay64, k0_pay63]
  refine View.allAt_cons_unit _ _ _ _ _ (tile x0 y 128 7168 2 14 _ rfl rfl fun c b => ?_) ?_
  · simp only [load_at arg1 harg1 x0 2 14 _ (by decide) (by decide)]
    pointwise [k0_pay62]
  refine View.allAt_cons_unit _ _ _ _ _ (tile x0 y 128 6656 2 13 _ rfl rfl fun c b => ?_) ?_
  · simp only [load_at arg1 harg1 x0 2 13 _ (by decide) (by decide)]
    pointwise [k0_pay61]
  refine View.allAt_cons_unit _ _ _ _ _ (tile x0 y 128 6144 2 12 _ rfl rfl fun c b => ?_) ?_
  · simp only [load_at arg1 harg1 x0 2 12 _ (by decide) (by decide)]
    pointwise [k0_pay60]
  refine View.allAt_cons_unit _ _ _ _ _ (tile x0 y 128 5632 2 11 _ rfl rfl fun c b => ?_) ?_
  · simp only [load_at arg1 harg1 x0 2 11 _ (by decide) (by decide)]
    pointwise [k0_pay59]
  refine View.allAt_cons_unit _ _ _ _ _ (tile x0 y 128 5120 2 10 _ rfl rfl fun c b => ?_) ?_
  · simp only [load_at arg1 harg1 x0 2 10 _ (by decide) (by decide)]
    pointwise [k0_pay58]
  refine View.allAt_cons_unit _ _ _ _ _ (tile x0 y 128 4608 2 9 _ rfl rfl fun c b => ?_) ?_
  · simp only [load_at arg1 harg1 x0 2 9 _ (by decide) (by decide)]
    pointwise [k0_pay57]
  refine View.allAt_cons_unit _ _ _ _ _ (tile x0 y 128 4096 2 8 _ rfl rfl fun c b => ?_) ?_
  · simp only [load_at arg1 harg1 x0 2 8 _ (by decide) (by decide)]
    pointwise [k0_pay56]
  refine View.allAt_cons_unit _ _ _ _ _ (tile x0 y 128 3584 2 7 _ rfl rfl fun c b => ?_) ?_
  · simp only [load_at arg1 harg1 x0 2 7 _ (by decide) (by decide)]
    pointwise [k0_pay55]
  refine View.allAt_cons_unit _ _ _ _ _ (tile x0 y 128 3072 2 6 _ rfl rfl fun c b => ?_) ?_
  · simp only [kernelRun0_A.sl.r_15, load_at arg1 harg1 x0 2 6 _ (by decide) (by decide)]
    pointwise [k0_pay54]
  refine View.allAt_cons_unit _ _ _ _ _ (tile x0 y 128 2560 2 5 _ rfl rfl fun c b => ?_) ?_
  · simp only [load_at arg1 harg1 x0 2 5 _ (by decide) (by decide)]
    pointwise [k0_pay53]
  refine View.allAt_cons_unit _ _ _ _ _ (tile x0 y 128 2048 2 4 _ rfl rfl fun c b => ?_) ?_
  · simp only [load_at arg1 harg1 x0 2 4 _ (by decide) (by decide)]
    pointwise [k0_pay52]
  refine View.allAt_cons_unit _ _ _ _ _ (tile x0 y 128 1536 2 3 _ rfl rfl fun c b => ?_) ?_
  · simp only [load_at arg1 harg1 x0 2 3 _ (by decide) (by decide)]
    pointwise [k0_pay51]
  refine View.allAt_cons_unit _ _ _ _ _ (tile x0 y 128 1024 2 2 _ rfl rfl fun c b => ?_) ?_
  · simp only [load_at arg1 harg1 x0 2 2 _ (by decide) (by decide)]
    pointwise [k0_pay50]
  refine View.allAt_cons_unit _ _ _ _ _ (tile x0 y 128 512 2 1 _ rfl rfl fun c b => ?_) ?_
  · simp only [kernelRun0_A.sl.r_14, load_at arg1 harg1 x0 2 1 _ (by decide) (by decide)]
    pointwise [k0_pay49, k0_pay48]
  refine View.allAt_cons_unit _ _ _ _ _ (tile x0 y 128 0 2 0 _ rfl rfl fun c b => ?_) ?_
  · simp only [load_at arg1 harg1 x0 2 0 _ (by decide) (by decide)]
    pointwise [k0_pay47]
  refine View.allAt_cons_unit _ _ _ _ _ (tile x0 y 64 7680 1 15 _ rfl rfl fun c b => ?_) ?_
  · simp only [load_at arg1 harg1 x0 1 15 _ (by decide) (by decide)]
    pointwise [k0_pay46]
  refine View.allAt_cons_unit _ _ _ _ _ (tile x0 y 64 7168 1 14 _ rfl rfl fun c b => ?_) ?_
  · simp only [load_at arg1 harg1 x0 1 14 _ (by decide) (by decide)]
    pointwise [k0_pay45]
  refine View.allAt_cons_unit _ _ _ _ _ (tile x0 y 64 6656 1 13 _ rfl rfl fun c b => ?_) ?_
  · simp only [load_at arg1 harg1 x0 1 13 _ (by decide) (by decide)]
    pointwise [k0_pay44]
  refine View.allAt_cons_unit _ _ _ _ _ (tile x0 y 64 6144 1 12 _ rfl rfl fun c b => ?_) ?_
  · simp only [load_at arg1 harg1 x0 1 12 _ (by decide) (by decide)]
    pointwise [k0_pay43]
  refine View.allAt_cons_unit _ _ _ _ _ (tile x0 y 64 5632 1 11 _ rfl rfl fun c b => ?_) ?_
  · simp only [load_at arg1 harg1 x0 1 11 _ (by decide) (by decide)]
    pointwise [k0_pay42]
  refine View.allAt_cons_unit _ _ _ _ _ (tile x0 y 64 5120 1 10 _ rfl rfl fun c b => ?_) ?_
  · simp only [load_at arg1 harg1 x0 1 10 _ (by decide) (by decide)]
    pointwise [k0_pay41]
  refine View.allAt_cons_unit _ _ _ _ _ (tile x0 y 64 4608 1 9 _ rfl rfl fun c b => ?_) ?_
  · simp only [load_at arg1 harg1 x0 1 9 _ (by decide) (by decide)]
    pointwise [k0_pay40]
  refine View.allAt_cons_unit _ _ _ _ _ (tile x0 y 64 4096 1 8 _ rfl rfl fun c b => ?_) ?_
  · simp only [kernelRun0_A.sl.r_13, load_at arg1 harg1 x0 1 8 _ (by decide) (by decide)]
    pointwise [k0_pay39, k0_pay38]
  refine View.allAt_cons_unit _ _ _ _ _ (tile x0 y 64 3584 1 7 _ rfl rfl fun c b => ?_) ?_
  · simp only [load_at arg1 harg1 x0 1 7 _ (by decide) (by decide)]
    pointwise [k0_pay37]
  refine View.allAt_cons_unit _ _ _ _ _ (tile x0 y 64 3072 1 6 _ rfl rfl fun c b => ?_) ?_
  · simp only [load_at arg1 harg1 x0 1 6 _ (by decide) (by decide)]
    pointwise [k0_pay36]
  refine View.allAt_cons_unit _ _ _ _ _ (tile x0 y 64 2560 1 5 _ rfl rfl fun c b => ?_) ?_
  · simp only [load_at arg1 harg1 x0 1 5 _ (by decide) (by decide)]
    pointwise [k0_pay35]
  refine View.allAt_cons_unit _ _ _ _ _ (tile x0 y 64 2048 1 4 _ rfl rfl fun c b => ?_) ?_
  · simp only [load_at arg1 harg1 x0 1 4 _ (by decide) (by decide)]
    pointwise [k0_pay34]
  refine View.allAt_cons_unit _ _ _ _ _ (tile x0 y 64 1536 1 3 _ rfl rfl fun c b => ?_) ?_
  · simp only [kernelRun0_A.sl.r_12, load_at arg1 harg1 x0 1 3 _ (by decide) (by decide)]
    pointwise [k0_pay33]
  refine View.allAt_cons_unit _ _ _ _ _ (tile x0 y 64 1024 1 2 _ rfl rfl fun c b => ?_) ?_
  · simp only [load_at arg1 harg1 x0 1 2 _ (by decide) (by decide)]
    pointwise [k0_pay32]
  refine View.allAt_cons_unit _ _ _ _ _ (tile x0 y 64 512 1 1 _ rfl rfl fun c b => ?_) ?_
  · simp only [load_at arg1 harg1 x0 1 1 _ (by decide) (by decide)]
    pointwise [k0_pay31]
  refine View.allAt_cons_unit _ _ _ _ _ (tile x0 y 64 0 1 0 _ rfl rfl fun c b => ?_) ?_
  · simp only [load_at arg1 harg1 x0 1 0 _ (by decide) (by decide)]
    pointwise [k0_pay30]
  refine View.allAt_cons_unit _ _ _ _ _ (tile x0 y 0 7680 0 15 _ rfl rfl fun c b => ?_) ?_
  · simp only [load_at arg1 harg1 x0 0 15 _ (by decide) (by decide)]
    pointwise [k0_pay29]
  refine View.allAt_cons_unit _ _ _ _ _ (tile x0 y 0 7168 0 14 _ rfl rfl fun c b => ?_) ?_
  · simp only [load_at arg1 harg1 x0 0 14 _ (by decide) (by decide)]
    pointwise [k0_pay28]
  refine View.allAt_cons_unit _ _ _ _ _ (tile x0 y 0 6656 0 13 _ rfl rfl fun c b => ?_) ?_
  · simp only [load_at arg1 harg1 x0 0 13 _ (by decide) (by decide)]
    pointwise [k0_pay27]
  refine View.allAt_cons_unit _ _ _ _ _ (tile x0 y 0 6144 0 12 _ rfl rfl fun c b => ?_) ?_
  · simp only [load_at arg1 harg1 x0 0 12 _ (by decide) (by decide)]
    pointwise [k0_pay26]
  refine View.allAt_cons_unit _ _ _ _ _ (tile x0 y 0 5632 0 11 _ rfl rfl fun c b => ?_) ?_
  · simp only [load_at arg1 harg1 x0 0 11 _ (by decide) (by decide)]
    pointwise [k0_pay25]
  refine View.allAt_cons_unit _ _ _ _ _ (tile x0 y 0 5120 0 10 _ rfl rfl fun c b => ?_) ?_
  · simp only [kernelRun0_A.sl.r_11, load_at arg1 harg1 x0 0 10 _ (by decide) (by decide)]
    pointwise [k0_pay24, k0_pay23]
  refine View.allAt_cons_unit _ _ _ _ _ (tile x0 y 0 4608 0 9 _ rfl rfl fun c b => ?_) ?_
  · simp only [load_at arg1 harg1 x0 0 9 _ (by decide) (by decide)]
    pointwise [k0_pay22]
  refine View.allAt_cons_unit _ _ _ _ _ (tile x0 y 0 4096 0 8 _ rfl rfl fun c b => ?_) ?_
  · simp only [load_at arg1 harg1 x0 0 8 _ (by decide) (by decide)]
    pointwise [k0_pay21]
  refine View.allAt_cons_unit _ _ _ _ _ (tile x0 y 0 3584 0 7 _ rfl rfl fun c b => ?_) ?_
  · simp only [load_at arg1 harg1 x0 0 7 _ (by decide) (by decide)]
    pointwise [k0_pay20]
  refine View.allAt_cons_unit _ _ _ _ _ (tile x0 y 0 3072 0 6 _ rfl rfl fun c b => ?_) ?_
  · simp only [load_at arg1 harg1 x0 0 6 _ (by decide) (by decide)]
    pointwise [k0_pay19]
  refine View.allAt_cons_unit _ _ _ _ _ (tile x0 y 0 2560 0 5 _ rfl rfl fun c b => ?_) ?_
  · simp only [load_at arg1 harg1 x0 0 5 _ (by decide) (by decide)]
    pointwise [k0_pay18]
  refine View.allAt_cons_unit _ _ _ _ _ (tile x0 y 0 2048 0 4 _ rfl rfl fun c b => ?_) ?_
  · simp only [load_at arg1 harg1 x0 0 4 _ (by decide) (by decide)]
    pointwise [k0_pay17]
  refine View.allAt_cons_unit _ _ _ _ _ (tile x0 y 0 1536 0 3 _ rfl rfl fun c b => ?_) ?_
  · simp only [load_at arg1 harg1 x0 0 3 _ (by decide) (by decide)]
    pointwise [k0_pay16]
  refine View.allAt_cons_unit _ _ _ _ _ (tile x0 y 0 1024 0 2 _ rfl rfl fun c b => ?_) ?_
  · simp only [load_at arg1 harg1 x0 0 2 _ (by decide) (by decide)]
    pointwise [k0_pay15]
  refine View.allAt_cons_unit _ _ _ _ _ (tile x0 y 0 512 0 1 _ rfl rfl fun c b => ?_) ?_
  · simp only [kernelRun0_A.sl.r_10, load_at arg1 harg1 x0 0 1 _ (by decide) (by decide)]
    pointwise [k0_pay14, k0_pay13]
  refine View.allAt_cons_unit _ _ _ _ _ (tile x0 y 0 0 0 0 _ rfl rfl fun c b => ?_) ?_
  · simp only [load_at arg1 harg1 x0 0 0 _ (by decide) (by decide)]
    pointwise [k0_pay12]
  exact View.allAt_nil y _

end Cert.KernelIdeal.Value
-- ==== Proof.Val.Words.lean ====
/-
  One block of the kernel: its output at an index, from its six input blocks.
-/
module

public import proofs.«01_k».proof.Proof.Val.Scratch

set_option maxRecDepth 16384

@[expose] public section

namespace Cert.KernelIdeal.Value

open Cert.KernelIdeal Cert.KernelIdeal.Gen Idealize.ShloMosaic Cert.Maths

/-- The six input blocks hold the data of one batch row at each column and the weights `w`, packed: the two convolutions'
    weights one above the other with their taps along the columns, the biases one above the other with the first one three
    times. -/
structure Packed (w : Weights) (x1 : Vec Ideal S128x192 .bf16) (x2 : Vec Ideal S528x1 .f32) (x3 : Vec Ideal S64x128 .f32)
    (x4 : Vec Ideal S128x128 .f32) (x5 : Vec Ideal S128x16 .f32) : Prop where
  hW1 : ∀ (o : Fin 64) (s : Fin 64) (k : Fin 3), x1 (ix2 ⟨o.val, by omega⟩ (row k s)) = w.W1 o s k
  hW2 : ∀ (o : Fin 64) (s : Fin 64) (k : Fin 3), x1 (ix2 ⟨64 + o.val, by omega⟩ (row k s)) = w.W2 o s k
  hb1 : ∀ (k : Fin 3) (o : Fin 64), x2 (ix2 ⟨(row k o).val, by omega⟩ 0) = w.b1 o
  hb2 : ∀ o : Fin 64, x2 (ix2 ⟨192 + o.val, by omega⟩ 0) = w.b2 o
  hbg1 : ∀ f : Fin 128, x2 (ix2 ⟨256 + f.val, by omega⟩ 0) = w.bg1 f
  hbg2 : ∀ f : Fin 128, x2 (ix2 ⟨384 + f.val, by omega⟩ 0) = w.bg2 f
  hbl : ∀ o : Fin 16, x2 (ix2 ⟨512 + o.val, by omega⟩ 0) = w.bl o
  hWg1 : ∀ s f, x3 (ix2 s f) = w.Wg1 s f
  hWg2 : ∀ s f, x4 (ix2 s f) = w.Wg2 s f
  hWl : ∀ f o, x5 (ix2 f o) = w.Wl f o

/-- A load of part of a two-dimensional block, at an index. -/
theorem part_at {R C r k : ℕ} {e : EltTy} {κ : Kind} {sp : Space} (M : Memref sig κ sp ⟨2, ![R, C]⟩ e) (hM : M.IsWhole)
    (x : Vec Ideal ⟨2, ![R, C]⟩ e) (d : ℕ)
    (inb : ∀ a, (![d, 0] : Fin 2 → ℕ) a + (⟨2, ![r, k]⟩ : Shape).size a ≤ (⟨2, ![R, C]⟩ : Shape).size a)
    (i : Fin r) (j : Fin k) (h : d + i.val < R) (h' : j.val < C) :
    View.readAt (Elt Ideal) M.view (Rect.unit (s := ⟨2, ![R, C]⟩) ![d, 0] (⟨2, ![r, k]⟩ : Shape).size inb).toLoadRect (hM.unread x)
        (ix2 i j) = x (ix2 ⟨d + i.val, h⟩ ⟨j.val, h'⟩) := by
  rw [View.readAt_eq_ld, hM.read_unread]
  refine View.ld_unit_apply_of x _ _ _ _ _ fun a => ?_
  fin_cases a
  · rfl
  · show j.val = 0 + j.val; omega

/-- A load of three groups of 64 rows of the scratch, at an index. -/
theorem rows_at (c : Dev nD) (arg1 : Memref sig .tc .vmem S5x16x64x512 .f32) (harg1 : arg1.IsWhole)
    (arg8 : Memref sig .tc .vmem S320x8192 .bf16) (x0 : Vec Ideal S5x16x64x512 .f32) (p : Fin 3) (d : ℕ) (hd : d = 64 * p.val)
    (inb : ∀ a, (![d, 0] : Fin 2 → ℕ) a + S192x8192.size a ≤ S320x8192.size a) (k : Fin 3) (s : Fin 64) (q : Fin 8192) :
    arg8.view.readCov (kernelRun0_A.sl.HS0_80 c arg1 harg1 x0)
        (Rect.unit (s := S320x8192) ![d, 0] S192x8192.size inb).toLoadRect (ix2 (row k s) q)
      = x0 (ix4 (step p k) ⟨q.val / 512, by omega⟩ s ⟨q.val % 512, by omega⟩) := by
  rw [View.readCov_eq_canon']
  refine (scratch_eq c arg1 harg1 x0 _).trans ?_
  unfold held
  have e0 : ((Rect.unit (s := S320x8192) ![d, 0] S192x8192.size inb).idx (ix2 (row k s) q) 0).val = 64 * (p.val + k.val) + s.val := by
    rw [Rect.idx_unit_val]
    show d + (64 * k.val + s.val) = _
    omega
  have e1 : ((Rect.unit (s := S320x8192) ![d, 0] S192x8192.size inb).idx (ix2 (row k s) q) 1).val = q.val := by
    rw [Rect.idx_unit_val]
    show 0 + q.val = _
    omega
  congr 1
  funext a
  fin_cases a
  · exact Fin.ext ((congrArg (· / 64) e0).trans (show (64 * (p.val + k.val) + s.val) / 64 = p.val + k.val by omega))
  · exact Fin.ext (congrArg (· / 512) e1)
  · exact Fin.ext ((congrArg (· % 64) e0).trans (show (64 * (p.val + k.val) + s.val) % 64 = s.val by omega))
  · exact Fin.ext (congrArg (· % 512) e1)

section
variable (c : Dev nD) (arg1 : Memref sig .tc .vmem S5x16x64x512 .f32) (harg1 : arg1.IsWhole)
  (arg2 : Memref sig .tc .vmem S128x192 .bf16) (harg2 : arg2.IsWhole)
  (arg3 : Memref sig .tc .vmem S528x1 .f32) (harg3 : arg3.IsWhole)
  (arg4 : Memref sig .tc .vmem S64x128 .f32) (harg4 : arg4.IsWhole)
  (arg5 : Memref sig .tc .vmem S128x128 .f32) (harg5 : arg5.IsWhole)
  (arg6 : Memref sig .tc .vmem S128x16 .f32) (harg6 : arg6.IsWhole)
  (arg8 : Memref sig .tc .vmem S320x8192 .bf16)
  (x0 : Vec Ideal S5x16x64x512 .f32) (x1 : Vec Ideal S128x192 .bf16) (x2 : Vec Ideal S528x1 .f32)
  (x3 : Vec Ideal S64x128 .f32) (x4 : Vec Ideal S128x128 .f32) (x5 : Vec Ideal S128x16 .f32)
  (w : Weights)

/-- The features of a node. -/
theorem feat_word (hp : Packed w x1 x2 x3 x4 x5) (f : Fin 64) (n : Fin 16) (q : Fin 512) :
    kernelRun0_A.sl.r_21 (F := Ideal) c arg1 harg1 arg2 harg2 arg3 harg3 arg8 x0 x1 x2 (ix2 f (col n q))
      = feat w.W1 w.b1 w.W2 w.b2 (fun l s => x0 (ix4 l n s q)) f := by
  refine (z_at _ _ _ _ _ _ _ w.W1 w.W2 w.b1 w.b2
    (fun l s Q => x0 (ix4 l ⟨Q.val / 512, by omega⟩ s ⟨Q.val % 512, by omega⟩)) ?_ ?_ ?_ ?_ ?_ ?_ ?_ f (col n q)).trans ?_
  · intro o s k
    unfold kernelRun0_A.sl.r
    pointwise [k0_pay2]
    refine (part_at arg2 harg2 x1 0 _ o (row k s) (by omega) (by omega)).trans ?_
    rw [← hp.hW1]
    congr 2
    exact Fin.ext (by simp)
  · intro o s k
    unfold kernelRun0_A.sl.r_1
    pointwise [k0_pay3]
    exact (part_at arg2 harg2 x1 64 _ o (row k s) (by omega) (by omega)).trans (hp.hW2 o s k)
  · intro k o
    unfold kernelRun0_A.sl.r_5
    pointwise [k0_pay7]
    refine (part_at arg3 harg3 x2 0 _ (row k o) 0 (by omega) (by omega)).trans ?_
    rw [← hp.hb1 k o]
    congr 2
    exact Fin.ext (by simp)
  · intro o
    unfold kernelRun0_A.sl.r_6
    pointwise [k0_pay8]
    exact (part_at arg3 harg3 x2 192 _ o 0 (by omega) (by omega)).trans (hp.hb2 o)
  · intro k s Q
    exact rows_at c arg1 harg1 arg8 x0 0 0 rfl _ k s Q
  · intro k s Q
    exact rows_at c arg1 harg1 arg8 x0 1 64 rfl _ k s Q
  · intro k s Q
    exact rows_at c arg1 harg1 arg8 x0 2 128 rfl _ k s Q
  · congr 1
    funext l s
    congr 1
    funext a
    fin_cases a
    · rfl
    · exact Fin.ext (by show (512 * n.val + q.val) / 512 = n.val; omega)
    · rfl
    · exact Fin.ext (by show (512 * n.val + q.val) % 512 = q.val; omega)

/-- The first graph convolution at a node. -/
theorem first_word (hp : Packed w x1 x2 x3 x4 x5) (f : Fin 128) (n : Fin 16) (q : Fin 512) :
    kernelRun0_A.sl.r_41 (F := Ideal) c arg1 harg1 arg2 harg2 arg3 harg3 arg4 harg4 arg8 x0 x1 x2 x3 (ix2 f (col n q))
      = gcn w.Wg1 w.bg1 (fun j => feat w.W1 w.b1 w.W2 w.b2 (fun l s => x0 (ix4 l j s q))) n f := by
  have hz : ∀ c' (Q : Fin 8192), 0 ≤ kernelRun0_A.sl.r_21 (F := Ideal) c arg1 harg1 arg2 harg2 arg3 harg3 arg8 x0 x1 x2 (ix2 c' Q) := fun c' Q => by
    have e : Q = col ⟨Q.val / 512, by omega⟩ ⟨Q.val % 512, by omega⟩ :=
      Fin.ext (show Q.val = 512 * (Q.val / 512) + Q.val % 512 by omega)
    rw [e, feat_word c arg1 harg1 arg2 harg2 arg3 harg3 arg8 x0 x1 x2 x3 x4 x5 w hp]
    exact conv_nonneg _ _ _ _
  unfold kernelRun0_A.sl.r_41
  refine (g1_at _ _ _ _ _ _ _ _ _ _ _ _ _ _ _ _ _ _ _ w.Wg1 w.bg1 ?_ ?_ hz
    (fun f q => agg1_0 _ _ _ _ _ _ _ f q)
    (fun f q => agg1_1 _ _ _ _ _ _ _ f q)
    (fun f q => agg1_2 _ _ _ _ _ _ _ f q)
    (fun f q => agg1_3 _ f q)
    (fun f q => agg1_4 _ f q)
    (fun f q => agg1_5 _ f q)
    (fun f q => agg1_6 _ f q)
    (fun f q => agg1_7 _ f q)
    (fun f q => agg1_8 _ f q)
    (fun f q => agg1_9 _ f q)
    (fun f q => agg1_10 _ f q)
    (fun f q => agg1_11 _ f q)
    (fun f q => agg1_12 _ f q)
    (fun f q => agg1_13 _ f q)
    f n q).trans ?_
  · intro s f
    unfold kernelRun0_A.sl.r_2
    pointwise [k0_pay4]
    refine (part_at arg4 harg4 x3 0 _ s f (by omega) (by omega)).trans ?_
    rw [← hp.hWg1 s f]
    congr 2
    exact Fin.ext (by simp)
  · intro f
    unfold kernelRun0_A.sl.r_7
    pointwise [k0_pay9]
    exact (part_at arg3 harg3 x2 256 _ f 0 (by omega) (by omega)).trans (hp.hbg1 f)
  · refine congrArg (fun z => gcn w.Wg1 w.bg1 z n f) ?_
    funext j s
    exact feat_word c arg1 harg1 arg2 harg2 arg3 harg3 arg8 x0 x1 x2 x3 x4 x5 w hp s j q

/-- The linear layer's output at a node. -/
theorem node_word (hp : Packed w x1 x2 x3 x4 x5) (o : Fin 16) (n : Fin 16) (q : Fin 512) :
    kernelRun0_A.sl.r_62 (F := Ideal) c arg1 harg1 arg2 harg2 arg3 harg3 arg4 harg4 arg5 harg5 arg6 harg6 arg8 x0 x1 x2 x3 x4 x5 (ix2 o (col n q))
      = w.node (fun j l s => x0 (ix4 l j s q)) n o := by
  have hz : ∀ c' (Q : Fin 8192), 0 ≤ kernelRun0_A.sl.r_41 (F := Ideal) c arg1 harg1 arg2 harg2 arg3 harg3 arg4 harg4 arg8 x0 x1 x2 x3 (ix2 c' Q) := fun c' Q => by
    have e : Q = col ⟨Q.val / 512, by omega⟩ ⟨Q.val % 512, by omega⟩ :=
      Fin.ext (show Q.val = 512 * (Q.val / 512) + Q.val % 512 by omega)
    rw [e, first_word c arg1 harg1 arg2 harg2 arg3 harg3 arg4 harg4 arg8 x0 x1 x2 x3 x4 x5 w hp]
    exact gcn_nonneg _ _ _ _ _
  unfold kernelRun0_A.sl.r_62
  refine (y_at _ _ _ _ _ _ _ _ _ _ _ _ _ _ _ _ _ _ _ w.Wg2 w.bg2 w.Wl w.bl ?_ ?_ ?_ ?_ hz
    (fun f q => agg2_0 _ _ _ _ _ _ _ _ _ _ _ _ _ _ _ _ _ _ _ f q)
    (fun f q => agg2_1 _ _ _ _ _ _ _ _ _ _ _ _ _ _ _ _ _ _ _ f q)
    (fun f q => agg2_2 _ f q)
    (fun f q => agg2_3 _ f q)
    (fun f q => agg2_4 _ f q)
    (fun f q => agg2_5 _ f q)
    (fun f q => agg2_6 _ f q)
    (fun f q => agg2_7 _ f q)
    (fun f q => agg2_8 _ f q)
    (fun f q => agg2_9 _ f q)
    (fun f q => agg2_10 _ f q)
    (fun f q => agg2_11 _ f q)
    (fun f q => agg2_12 _ f q)
    (fun f q => agg2_13_part _ f q)
    o n q).trans ?_
  · intro s f
    unfold kernelRun0_A.sl.r_3
    pointwise [k0_pay5]
    refine (part_at arg5 harg5 x4 0 _ s f (by omega) (by omega)).trans ?_
    rw [← hp.hWg2 s f]
    congr 2
    exact Fin.ext (by simp)
  · intro f
    unfold kernelRun0_A.sl.r_8
    pointwise [k0_pay10]
    exact (part_at arg3 harg3 x2 384 _ f 0 (by omega) (by omega)).trans (hp.hbg2 f)
  · intro s f
    unfold kernelRun0_A.sl.r_4
    pointwise [k0_pay6]
    refine (part_at arg6 harg6 x5 0 _ s f (by omega) (by omega)).trans ?_
    rw [← hp.hWl s f]
    congr 2
    exact Fin.ext (by simp)
  · intro f
    unfold kernelRun0_A.sl.r_9
    pointwise [k0_pay11]
    exact (part_at arg3 harg3 x2 512 _ f 0 (by omega) (by omega)).trans (hp.hbl f)
  · unfold Weights.node
    refine congrArg (fun z => lin w.Wl w.bl (gcn w.Wg2 w.bg2 z n) o) ?_
    funext j s
    exact first_word c arg1 harg1 arg2 harg2 arg3 harg3 arg4 harg4 arg8 x0 x1 x2 x3 x4 x5 w hp s j q

/-- The block's output: the network's output on the graph of each column. -/
theorem out_word (hp : Packed w x1 x2 x3 x4 x5) (o : Fin 16) (q : Fin 512) :
    k0_pay1 (F := Ideal) (kernelRun0_A.sl.r_62 c arg1 harg1 arg2 harg2 arg3 harg3 arg4 harg4 arg5 harg5 arg6 harg6 arg8 x0 x1 x2 x3 x4 x5) (kernelRun0_A.sl.r_63 c arg1 harg1 arg2 harg2 arg3 harg3 arg4 harg4 arg5 harg5 arg6 harg6 arg8 x0 x1 x2 x3 x4 x5)
        (kernelRun0_A.sl.r_64 c arg1 harg1 arg2 harg2 arg3 harg3 arg4 harg4 arg5 harg5 arg6 harg6 arg8 x0 x1 x2 x3 x4 x5) (ix2 o q)
      = w.net (fun j l s => x0 (ix4 l j s q)) o := by
  refine (mean_at _ _ _ _ _ _ _ _ _ _ _ _ _ _ _ _ _ _ _ o q).trans ?_
  unfold Weights.net
  refine congrArg (· * ((1 / 16 : ℝ) : EReal)) (Finset.sum_congr rfl fun n _ => ?_)
  exact node_word c arg1 harg1 arg2 harg2 arg3 harg3 arg4 harg4 arg5 harg5 arg6 harg6 arg8 x0 x1 x2 x3 x4 x5 w hp o n q

end

end Cert.KernelIdeal.Value
-- ==== Proof.Val.Args.lean ====
/-
  The eleven arguments as mathematics: the weights, and the data of one graph of the batch.
-/
module

public import proofs.«01_k».proof.Proof.Val.Net
public import Idealize.ShloMosaic.Lib.Pointwise

@[expose] public section

namespace Cert.Maths

open Idealize.ShloMosaic

/-- The weights of the network, read off the ten arrays that hold them. -/
def weights (a1 : Vec Ideal ⟨3, ![64, 64, 3]⟩ .f32) (a2 : Vec Ideal ⟨1, ![64]⟩ .f32) (a3 : Vec Ideal ⟨3, ![64, 64, 3]⟩ .f32)
    (a4 : Vec Ideal ⟨1, ![64]⟩ .f32) (a5 : Vec Ideal ⟨2, ![64, 128]⟩ .f32) (a6 : Vec Ideal ⟨1, ![128]⟩ .f32)
    (a7 : Vec Ideal ⟨2, ![128, 128]⟩ .f32) (a8 : Vec Ideal ⟨1, ![128]⟩ .f32) (a9 : Vec Ideal ⟨2, ![128, 16]⟩ .f32)
    (a10 : Vec Ideal ⟨1, ![16]⟩ .f32) : Weights where
  W1 o s k := a1 (ix3 o s k)
  b1 o := a2 (ix1 o)
  W2 o s k := a3 (ix3 o s k)
  b2 o := a4 (ix1 o)
  Wg1 s f := a5 (ix2 s f)
  bg1 f := a6 (ix1 f)
  Wg2 s f := a7 (ix2 s f)
  bg2 f := a8 (ix1 f)
  Wl f o := a9 (ix2 f o)
  bl o := a10 (ix1 o)

/-- The data of graph `B` of the batch: node, time step, channel. -/
def graph (a0 : Vec Ideal ⟨4, ![8192, 5, 16, 64]⟩ .f32) (B : Fin 8192) : Fin 16 → Fin 5 → Fin 64 → EReal :=
  fun n l s => a0 (ix4 B l n s)

end Cert.Maths

end
-- ==== Proof.Val.Entry.lean ====
/-
  What the kernel's six input windows hold, at an index, as elements of the arguments.
-/
module

public import proofs.«01_k».proof.Proof.Val.Words
public import proofs.«01_k».proof.Proof.Val.Args
public import Idealize.ShloMosaic.Lib.Claim
public import Idealize.ShloMosaic.Lib.StableHlo.ReadAt
public import Idealize.ShloMosaic.Lib.Pipeline.ValueKit

set_option maxRecDepth 16384

@[expose] public section

namespace Cert.KernelIdeal.Value

open Cert.KernelIdeal Cert.KernelIdeal.Gen Idealize.ShloMosaic Idealize.ShloMosaic.TcCoe Cert.Maths

variable (m : (ℓ : Loc nD τ sig) → Buf (Elt Ideal) ℓ) (c : Dev nD)

/-- The weights, read off the arguments' arrays. -/
def wts : Weights :=
  weights (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

/-- The data with the batch moved last. -/
theorem data_at (l : Fin 5) (n : Fin 16) (s : Fin 64) (B : Fin 8192) :
    V m c main_v0 (ix4 l n s B) = m ((c : Thread nD τ).loc main_arg0) (ix4 B l n s) := by
  unfold V V0
  simp only [List.flatten_cons, List.flatten_nil, List.append_nil]
  after_reads_at

/-- The two convolutions' weights, as the lines before the region compute them. -/
theorem pack_eq : (V m c main_v6 : Vec Ideal S128x192 .bf16)
    = truncf (F := Ideal) .bf16 (concatenate S128x192 0
        [⟨S64x192, shapeCast S64x192 (transpose S64x3x64 [0, 2, 1] (m ((c : Thread nD τ).loc main_arg1) : Vec Ideal S64x64x3 .f32) transposes_S64x64x3_S64x3x64_0_2_1) shapeCasts_S64x3x64_S64x192⟩,
         ⟨S64x192, shapeCast S64x192 (transpose S64x3x64 [0, 2, 1] (m ((c : Thread nD τ).loc main_arg3) : Vec Ideal S64x64x3 .f32) transposes_S64x64x3_S64x3x64_0_2_1) shapeCasts_S64x3x64_S64x192⟩]
        concatenates_S64x192_S64x192_S128x192_d0) bitsLt_bf16_f32 := by
  entry_read
  rfl

/-- The biases, as the lines before the region compute them. -/
theorem bias_eq : (V m c main_v8 : Vec Ideal S528x1 .f32)
    = shapeCast S528x1 (concatenate S528 0
        [⟨S64, (m ((c : Thread nD τ).loc main_arg2) : Vec Ideal S64 .f32)⟩, ⟨S64, (m ((c : Thread nD τ).loc main_arg2) : Vec Ideal S64 .f32)⟩,
         ⟨S64, (m ((c : Thread nD τ).loc main_arg2) : Vec Ideal S64 .f32)⟩, ⟨S64, (m ((c : Thread nD τ).loc main_arg4) : Vec Ideal S64 .f32)⟩,
         ⟨S128, (m ((c : Thread nD τ).loc main_arg6) : Vec Ideal S128 .f32)⟩, ⟨S128, (m ((c : Thread nD τ).loc main_arg8) : Vec Ideal S128 .f32)⟩,
         ⟨S16, (m ((c : Thread nD τ).loc main_arg10) : Vec Ideal S16 .f32)⟩] concatenates_S64_S64_S64_S64_S128_S128_S16_S528_d0)
        shapeCasts_S528_S528x1 := by
  entry_read
  rfl

/-- The feature of a row of three groups of 64. -/
theorem row_mod (k : Fin 3) (s : Fin 64) : (row k s).val % 64 = s.val := by
  show (64 * k.val + s.val) % 64 = s.val
  omega

/-- The group of a row of three groups of 64. -/
theorem row_div (k : Fin 3) (s : Fin 64) : (row k s).val / 64 = k.val := by
  show (64 * k.val + s.val) / 64 = k.val
  omega

/-- The first convolution's weights, in the upper half of the packed array. -/
theorem pack_upper (o s : Fin 64) (k : Fin 3) :
    (V m c main_v6 : Vec Ideal S128x192 .bf16) (ix2 ⟨o.val, by omega⟩ (row k s)) = m ((c : Thread nD τ).loc main_arg1) (ix3 o s k) := by
  rw [pack_eq]
  pointwise
  exact congrArg _ (congrArg₂ (ix3 o) (Fin.ext (row_mod k s)) (Fin.ext (row_div k s)))

/-- The second convolution's weights, in the lower half. -/
theorem pack_lower (o s : Fin 64) (k : Fin 3) :
    (V m c main_v6 : Vec Ideal S128x192 .bf16) (ix2 ⟨64 + o.val, by omega⟩ (row k s)) = m ((c : Thread nD τ).loc main_arg3) (ix3 o s k) := by
  rw [pack_eq]
  pointwise
  exact congrArg _ (congrArg₂ (ix3 o) (Fin.ext (row_mod k s)) (Fin.ext (row_div k s)))

/-- The first convolution's bias, three times. -/
theorem bias_first (k : Fin 3) (o : Fin 64) :
    (V m c main_v8 : Vec Ideal S528x1 .f32) (ix2 ⟨(row k o).val, by omega⟩ 0) = m ((c : Thread nD τ).loc main_arg2) (ix1 o) := by
  rw [bias_eq]
  have hr : (row k o).val = 64 * k.val + o.val := rfl
  pointwise
  split_ifs <;> first | omega | exact congrArg _ (congrArg ix1 (Fin.ext (show _ = o.val by simp only []; omega)))

/-- The second convolution's bias. -/
theorem bias_second (o : Fin 64) :
    (V m c main_v8 : Vec Ideal S528x1 .f32) (ix2 ⟨192 + o.val, by omega⟩ 0) = m ((c : Thread nD τ).loc main_arg4) (ix1 o) := by
  rw [bias_eq]
  pointwise
  split_ifs <;> first | omega | skip
  exact congrArg _ (congrArg ix1 (Fin.ext (show _ = o.val by simp only []; omega)))

/-- The first graph convolution's bias. -/
theorem bias_third (o : Fin 128) :
    (V m c main_v8 : Vec Ideal S528x1 .f32) (ix2 ⟨256 + o.val, by omega⟩ 0) = m ((c : Thread nD τ).loc main_arg6) (ix1 o) := by
  rw [bias_eq]
  pointwise
  split_ifs <;> first | omega | skip
  exact congrArg _ (congrArg ix1 (Fin.ext (show _ = o.val by simp only []; omega)))

/-- The second graph convolution's bias. -/
theorem bias_fourth (o : Fin 128) :
    (V m c main_v8 : Vec Ideal S528x1 .f32) (ix2 ⟨384 + o.val, by omega⟩ 0) = m ((c : Thread nD τ).loc main_arg8) (ix1 o) := by
  rw [bias_eq]
  pointwise
  split_ifs <;> first | omega | skip
  exact congrArg _ (congrArg ix1 (Fin.ext (show _ = o.val by simp only []; omega)))

/-- The linear layer's bias. -/
theorem bias_fifth (o : Fin 16) :
    (V m c main_v8 : Vec Ideal S528x1 .f32) (ix2 ⟨512 + o.val, by omega⟩ 0) = m ((c : Thread nD τ).loc main_arg10) (ix1 o) := by
  rw [bias_eq]
  pointwise
  split_ifs <;> first | omega | skip
  exact congrArg _ (congrArg ix1 (Fin.ext (show _ = o.val by simp only []; omega)))

end Cert.KernelIdeal.Value

end
-- ==== Proof.Val.Array.lean ====
/-
  The array that the kernel's output window leaves, and the result after the transpose.
-/
module

public import proofs.«01_k».proof.Proof.Val.Entry

set_option maxRecDepth 16384

@[expose] public section

namespace Cert.KernelIdeal.Value

open Cert.KernelIdeal Cert.KernelIdeal.Gen Idealize.ShloMosaic Idealize.ShloMosaic.TcCoe Cert.Maths

variable (m : (ℓ : Loc nD τ sig) → Buf (Elt Ideal) ℓ) (c : Dev nD)

/-- The windows' block indices at a point of the grid. -/
theorem idx : ∀ t : Fin cfg0.N, win0_0.index t = ![0, 0, 0, t.val] ∧ win0_1.index t = ![0, 0] ∧ win0_2.index t = ![0, 0]
    ∧ win0_3.index t = ![0, 0] ∧ win0_4.index t = ![0, 0] ∧ win0_5.index t = ![0, 0] ∧ win0_6.index t = ![0, t.val] :=
  (by decide +kernel : ∀ t : Fin grid0.N, _)

/-- The data block of a point of the grid: 512 graphs of the batch. -/
theorem iblk0_at (t : Fin cfg0.N) (ht : t.val < 16) (l : Fin 5) (n : Fin 16) (s : Fin 64) (q : Fin 512) :
    (iblk m c 0 t : Vec Ideal S5x16x64x512 .f32) (ix4 l n s q) = graph (m ((c : Thread nD τ).loc main_arg0)) (col ⟨t.val, ht⟩ q) n l s := by
  have e := data_at m c l n s (col ⟨t.val, ht⟩ q)
  unfold graph
  rw [← e]
  blk_ext [iblk, V, idx t, col]

/-- The weights' blocks are the whole packed arrays at every point. -/
theorem packed (t : Fin cfg0.N) :
    Packed (wts m c) (iblk m c 1 t) (iblk m c 2 t) (iblk m c 3 t) (iblk m c 4 t) (iblk m c 5 t) := by
  have h1 : (iblk m c 1 t : Vec Ideal S128x192 .bf16) = V m c main_v6 := by blk_ext! [iblk, idx t]
  have h2 : (iblk m c 2 t : Vec Ideal S528x1 .f32) = V m c main_v8 := by blk_ext! [iblk, idx t]
  have h3 : (iblk m c 3 t : Vec Ideal S64x128 .f32) = V m c main_arg5 := by blk_ext! [iblk, idx t]
  have h4 : (iblk m c 4 t : Vec Ideal S128x128 .f32) = V m c main_arg7 := by blk_ext! [iblk, idx t]
  have h5 : (iblk m c 5 t : Vec Ideal S128x16 .f32) = V m c main_arg9 := by blk_ext! [iblk, idx t]
  rw [h1, h2, h3, h4, h5, V_main_arg5, V_main_arg7, V_main_arg9]
  exact ⟨fun o s k => pack_upper m c o s k, fun o s k => pack_lower m c o s k, fun k o => bias_first m c k o,
    fun o => bias_second m c o, fun o => bias_third m c o, fun o => bias_fourth m c o, fun o => bias_fifth m c o,
    fun _ _ => rfl, fun _ _ => rfl, fun _ _ => rfl⟩

/-- The array the region leaves: the network's output, output by graph. -/
noncomputable def outT : Vec Ideal S16x8192 .f32 :=
  fun i => (wts m c).net (graph (m ((c : Thread nD τ).loc main_arg0)) (i 1)) (i 0)

/-- The output block of a point, at an index. -/
theorem block_at (t : Fin cfg0.N) (ht : t.val < 16) (o : Fin 16) (q : Fin 512) :
    outsAt0 m c t (ix2 o q) = (wts m c).net (graph (m ((c : Thread nD τ).loc main_arg0)) (col ⟨t.val, ht⟩ q)) o := by
  unfold outsAt0 out0_A_6
  rw [View.read_writes_junk_eq_canon]
  unfold kernelRun0_A
  refine (congrFun (View.canon_cons_unit_lit' _ _ _ (by decide)) _).trans ?_
  refine (out_word c _ _ _ _ _ _ _ _ _ _ _ _ _ _ _ _ _ _ _ (wts m c) (packed m c t) o q).trans ?_
  refine congrArg (fun x => (wts m c).net x o) ?_
  funext j l s
  exact iblk0_at m c t ht l j s q

/-- The blocks tile the array. -/
theorem arr_eq : (dats m 0 c).arrAt 6 cfg0.N = outT m c := by
  refine (dats m 0 c).arrAt_eq_of_covers 6 _ (by decide +kernel) fun t hf y => ?_
  blk_simp
  rw [after0_6]
  have ht : t.val < 16 := lt_of_lt_of_eq t.isLt N_0
  obtain ⟨o, q, rfl⟩ : ∃ (o : Fin 16) (q : Fin 512), y = ix2 o q := ⟨y 0, y 1, by funext a; fin_cases a <;> rfl⟩
  refine (block_at m c t ht o q).trans ?_
  have e : ((cfg0.win 6).blk t).view.emb (ix2 o q) = ix2 o (col ⟨t.val, ht⟩ q) := by blk_ext [idx t, col]
  rw [e]
  rfl

/-- The kernel's result: the network's output, graph by output. -/
noncomputable def out : Vec Ideal S8192x16 .f32 :=
  fun i => (wts m c).net (graph (m ((c : Thread nD τ).loc main_arg0)) (i 0)) (i 1)

/-- The transpose after the region turns the array into the result. -/
theorem out_eq : transpose S8192x16 [1, 0] (outT m c) transposes_S16x8192_S8192x16_1_0 = out m c := by
  funext i
  obtain ⟨B, o, rfl⟩ : ∃ (B : Fin 8192) (o : Fin 16), i = ix2 B o := ⟨i 0, i 1, by funext a; fin_cases a <;> rfl⟩
  pointwise
  rfl

/-- Every run of the kernel ends with the network's output in its result. -/
theorem run_out (ρ : Dev nD → PrngReg) : θ_run defs (onTc (τ := τ) (main (F := Ideal))) ⟨m, fun _ => 0, ρ⟩ (fun r => ∀ c : Dev nD,
      r.2.mem ((c.tc : Thread nD τ).loc main_v10) = out m c) := by
  run_from Cert.KernelIdeal.Gen.run_main m ρ
  unfold Pipeline.afterTail₀
  simp only [List.flatten_cons, List.flatten_nil, List.append_nil]
  after_results
  have e := Pipeline.withArrays_arr (cfgs 0).spec (by decide) c (V0 m c) (fun w => (dats m 0 c).arrAt w (cfgs 0).N) 6
  refine Eq.trans ?_ (out_eq m c)
  exact congrArg (fun x : Vec Ideal S16x8192 .f32 => transpose S8192x16 [1, 0] x transposes_S16x8192_S8192x16_1_0) (e.trans (arr_eq m c))

/-- Every run of the kernel ends with the network's output in its result, its arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v10) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨h.1 c, h.2 c⟩) (θ_run_and (run_out m ρ) (unchanged m ρ))

end Cert.KernelIdeal.Value

end
-- ==== Proof.Val.Places.lean ====
/-
  The reference's scatters and gathers at an index: where the word of an index array is a place's number, an update adds to
  that place and a read reads it.
-/
module

public import proofs.«01_k».proof.Proof.Gen.ReferenceIdeal.Run
public import Idealize.ShloMosaic.Lib.Pointwise
public import Idealize.ShloMosaic.Lib.Pointwise.IndexBridge
public import Idealize.ShloMosaic.Lib.Routing.OpsPair
public import Idealize.ShloMosaic.Lib.Routing.OpsSet

set_option maxRecDepth 8192

@[expose] public section

namespace Cert.ReferenceIdeal.Value

open Cert.ReferenceIdeal Cert.ReferenceIdeal.Gen Idealize.ShloMosaic

/-- A word below `2^31`, read signed. -/
theorem toInt_small (n : ℕ) (h : n < 2 ^ 31) : (BitVec.ofNat 32 n).toInt = (n : ℤ) :=
  StableHlo.Predicate.toInt_ofNat_small _ h

/-- One update of a vector lands at the place its word names. -/
theorem lands_vec (idx : IVec S409600x1 32) (e : Fin 409600) (N : Fin 131072) :
    scatter_S131072_S409600x1_S409600_n_0_0_1.resultIdx? (ix1 e) idx = some (ix1 N) ↔ (idx (ix2 e 0)).toInt = (N.val : ℤ) := by
  have hs : scatter_S131072_S409600x1_S409600_n_0_0_1.start (ix1 e) idx 0 = (idx (ix2 e 0)).toInt := by
    unfold ScatterDims.start
    rw [dif_pos (by decide)]
    refine congrArg (fun i => (idx i).toInt) ?_
    funext b
    fin_cases b <;> rfl
  have hw : scatter_S131072_S409600x1_S409600_n_0_0_1.window (ix1 e) 0 = 0 := by
    unfold ScatterDims.window
    rw [dif_neg (by decide)]
  rw [Routing.resultIdx?_eq_some]
  constructor
  · intro h
    have h0 := h 0
    rw [hs, hw] at h0
    simpa using h0
  · intro h a
    fin_cases a
    show scatter_S131072_S409600x1_S409600_n_0_0_1.start (ix1 e) idx 0 + (scatter_S131072_S409600x1_S409600_n_0_0_1.window (ix1 e) 0 : ℤ) = _
    rw [hs, hw, h]
    simp

/-- One update of a row lands at the row its word names, in its own column. -/
theorem lands_row (idx : IVec S409600x1 32) (e : Fin 409600) (f : Fin 128) (N : Fin 131072) (g : Fin 128) :
    scatter_S131072x128_S409600x1_S409600x128_1_0_0_1.resultIdx? (ix2 e f) idx = some (ix2 N g)
      ↔ (idx (ix2 e 0)).toInt = (N.val : ℤ) ∧ f = g := by
  have hs : scatter_S131072x128_S409600x1_S409600x128_1_0_0_1.start (ix2 e f) idx 0 = (idx (ix2 e 0)).toInt := by
    unfold ScatterDims.start
    rw [dif_pos (by decide)]
    refine congrArg (fun i => (idx i).toInt) ?_
    funext b
    fin_cases b <;> rfl
  have hs' : scatter_S131072x128_S409600x1_S409600x128_1_0_0_1.start (ix2 e f) idx 1 = 0 := by
    unfold ScatterDims.start
    rw [dif_neg (by decide)]
  have hw : scatter_S131072x128_S409600x1_S409600x128_1_0_0_1.window (ix2 e f) 0 = 0 := by
    unfold ScatterDims.window
    rw [dif_neg (by decide)]
  have hw' : scatter_S131072x128_S409600x1_S409600x128_1_0_0_1.window (ix2 e f) 1 = f.val := by
    unfold ScatterDims.window
    rw [dif_pos (by decide)]
    rfl
  rw [Routing.resultIdx?_eq_some]
  constructor
  · intro h
    have h0 := h 0
    have h1 := h 1
    rw [hs, hw] at h0
    rw [hs', hw'] at h1
    refine ⟨by simpa using h0, Fin.ext ?_⟩
    have h2 : (f.val : ℤ) = (g.val : ℤ) := by simpa using h1
    exact_mod_cast h2
  · rintro ⟨h, rfl⟩ a
    fin_cases a
    · show scatter_S131072x128_S409600x1_S409600x128_1_0_0_1.start (ix2 e f) idx 0 + (scatter_S131072x128_S409600x1_S409600x128_1_0_0_1.window (ix2 e f) 0 : ℤ) = _
      rw [hs, hw, h]
      simp
    · show scatter_S131072x128_S409600x1_S409600x128_1_0_0_1.start (ix2 e f) idx 1 + (scatter_S131072x128_S409600x1_S409600x128_1_0_0_1.window (ix2 e f) 1 : ℤ) = _
      rw [hs', hw']
      simp

/-- The same for the sixteen outputs of a node and the graphs of the batch. -/
theorem lands_graph (idx : IVec S131072x1 32) (N : Fin 131072) (f : Fin 16) (B : Fin 8192) (g : Fin 16) :
    scatter_S8192x16_S131072x1_S131072x16_1_0_0_1.resultIdx? (ix2 N f) idx = some (ix2 B g)
      ↔ (idx (ix2 N 0)).toInt = (B.val : ℤ) ∧ f = g := by
  have hs : scatter_S8192x16_S131072x1_S131072x16_1_0_0_1.start (ix2 N f) idx 0 = (idx (ix2 N 0)).toInt := by
    unfold ScatterDims.start
    rw [dif_pos (by decide)]
    refine congrArg (fun i => (idx i).toInt) ?_
    funext b
    fin_cases b <;> rfl
  have hs' : scatter_S8192x16_S131072x1_S131072x16_1_0_0_1.start (ix2 N f) idx 1 = 0 := by
    unfold ScatterDims.start
    rw [dif_neg (by decide)]
  have hw : scatter_S8192x16_S131072x1_S131072x16_1_0_0_1.window (ix2 N f) 0 = 0 := by
    unfold ScatterDims.window
    rw [dif_neg (by decide)]
  have hw' : scatter_S8192x16_S131072x1_S131072x16_1_0_0_1.window (ix2 N f) 1 = f.val := by
    unfold ScatterDims.window
    rw [dif_pos (by decide)]
    rfl
  rw [Routing.resultIdx?_eq_some]
  constructor
  · intro h
    have h0 := h 0
    have h1 := h 1
    rw [hs, hw] at h0
    rw [hs', hw'] at h1
    refine ⟨by simpa using h0, Fin.ext ?_⟩
    have h2 : (f.val : ℤ) = (g.val : ℤ) := by simpa using h1
    exact_mod_cast h2
  · rintro ⟨h, rfl⟩ a
    fin_cases a
    · show scatter_S8192x16_S131072x1_S131072x16_1_0_0_1.start (ix2 N f) idx 0 + (scatter_S8192x16_S131072x1_S131072x16_1_0_0_1.window (ix2 N f) 0 : ℤ) = _
      rw [hs, hw, h]
      simp
    · show scatter_S8192x16_S131072x1_S131072x16_1_0_0_1.start (ix2 N f) idx 1 + (scatter_S8192x16_S131072x1_S131072x16_1_0_0_1.window (ix2 N f) 1 : ℤ) = _
      rw [hs', hw']
      simp

/-- An array of words names places of a list. -/
def Names {E N : ℕ} (idx : IVec ⟨2, ![E, 1]⟩ 32) (D : Fin E → Fin N) : Prop := ∀ e, idx (ix2 e 0) = BitVec.ofNat 32 (D e).val

theorem Names.toInt_iff {E N : ℕ} (hN : N < 2 ^ 31) {idx : IVec ⟨2, ![E, 1]⟩ 32} {D : Fin E → Fin N} (h : Names idx D) (e : Fin E) (v : Fin N) :
    (idx (ix2 e 0)).toInt = (v.val : ℤ) ↔ D e = v := by
  rw [h e, toInt_small _ (by omega), Fin.ext_iff]
  exact Nat.cast_inj

/-- Numbers scattered into a vector: every place gets the sum of those that name it. -/
theorem add_vec (x : FVec Ideal S131072 .f32) (idx : IVec S409600x1 32) (u : FVec Ideal S409600 .f32) (D : Fin 409600 → Fin 131072)
    (h : Names idx D) (N : Fin 131072) :
    Host.scatterAdd scatter_S131072_S409600x1_S409600_n_0_0_1 x idx u (ix1 N)
      = x (ix1 N) + ∑ e, if D e = N then u (ix1 e) else 0 := by
  unfold Host.scatterAdd
  rw [Ideal.hostScatterAdd_def]
  refine congrArg (x (ix1 N) + ·) ?_
  rw [Finset.sum_filter, sum_idx1]
  refine Finset.sum_congr rfl fun e _ => ?_
  exact if_congr ((lands_vec idx e N).trans (h.toInt_iff (by norm_num) e N)) rfl rfl

/-- A sum over pairs that asks the second for one value. -/
theorem sum_col {E C : ℕ} (p : Fin E → Prop) [DecidablePred p] (u : Fin E → Fin C → EReal) (g : Fin C) :
    (∑ e, ∑ f, if p e ∧ f = g then u e f else 0) = ∑ e, if p e then u e g else 0 := by
  refine Finset.sum_congr rfl fun e _ => ?_
  by_cases hp : p e
  · simp only [hp, true_and, if_true]
    rw [Finset.sum_ite_eq' Finset.univ g (u e)]
    exact if_pos (Finset.mem_univ _)
  · simp [hp]

/-- Rows scattered into a table: every row gets the sum of those that name it. -/
theorem add_row (x : FVec Ideal S131072x128 .f32) (idx : IVec S409600x1 32) (u : FVec Ideal S409600x128 .f32) (D : Fin 409600 → Fin 131072)
    (h : Names idx D) (N : Fin 131072) (f : Fin 128) :
    Host.scatterAdd scatter_S131072x128_S409600x1_S409600x128_1_0_0_1 x idx u (ix2 N f)
      = x (ix2 N f) + ∑ e, if D e = N then u (ix2 e f) else 0 := by
  unfold Host.scatterAdd
  rw [Ideal.hostScatterAdd_def]
  refine congrArg (x (ix2 N f) + ·) ?_
  rw [Finset.sum_filter, sum_idx2]
  rw [← sum_col (fun e => D e = N) (fun e g => u (ix2 e g)) f]
  refine Finset.sum_congr rfl fun e _ => Finset.sum_congr rfl fun g _ => ?_
  exact if_congr ((lands_row idx e g N f).trans (and_congr_left' (h.toInt_iff (by norm_num) e N))) rfl rfl

/-- The nodes' outputs scattered into the graphs. -/
theorem add_graph (x : FVec Ideal S8192x16 .f32) (idx : IVec S131072x1 32) (u : FVec Ideal S131072x16 .f32) (D : Fin 131072 → Fin 8192)
    (h : Names idx D) (B : Fin 8192) (o : Fin 16) :
    Host.scatterAdd scatter_S8192x16_S131072x1_S131072x16_1_0_0_1 x idx u (ix2 B o)
      = x (ix2 B o) + ∑ N, if D N = B then u (ix2 N o) else 0 := by
  unfold Host.scatterAdd
  rw [Ideal.hostScatterAdd_def]
  refine congrArg (x (ix2 B o) + ·) ?_
  rw [Finset.sum_filter, sum_idx2]
  rw [← sum_col (fun N => D N = B) (fun N g => u (ix2 N g)) o]
  refine Finset.sum_congr rfl fun e _ => Finset.sum_congr rfl fun g _ => ?_
  exact if_congr ((lands_graph idx e g B o).trans (and_congr_left' (h.toInt_iff (by norm_num) e B))) rfl rfl

/-- A read of a vector at the places that words name. -/
theorem take_vec (x : FVec Ideal S131072 .f32) (idx : IVec S409600x1 32) (D : Fin 409600 → Fin 131072) (h : Names idx D) (e : Fin 409600) :
    Host.gather gather_S131072_S409600x1_S409600_n_0_n_n_0_1_1 x idx (ix1 e) = x (ix1 (D e)) := by
  rw [ix1_eq_valueIdx, ix1_eq_valueIdx]
  refine Routing.gather_take1 gather_S131072_S409600x1_S409600_n_0_n_n_0_1_1 rfl rfl rfl rfl x idx e (D e) ?_ (by norm_num)
  rw [← ix2_eq_valueIdx]
  exact h e

/-- A read of a table's rows at the places that words name. -/
theorem take_row (x : FVec Ideal S131072x128 .f32) (idx : IVec S409600x1 32) (D : Fin 409600 → Fin 131072) (h : Names idx D)
    (e : Fin 409600) (f : Fin 128) :
    Host.gather gather_S131072x128_S409600x1_S409600x128_1_0_n_n_0_1_1128 x idx (ix2 e f)
      = x (ix2 (D e) f) := by
  rw [ix2_eq_valueIdx, ix2_eq_valueIdx]
  refine Routing.gather_row gather_S131072x128_S409600x1_S409600x128_1_0_n_n_0_1_1128 rfl rfl rfl rfl rfl x idx e f (D e) ?_ (by norm_num)
  rw [← ix2_eq_valueIdx]
  exact h e

end Cert.ReferenceIdeal.Value

end
-- ==== Proof.Val.Stages.lean ====
/-
  The reference's computation in stages, each a function of arrays, and its result as their composition.
-/
module

public import proofs.«01_k».proof.Proof.Val.Places

set_option maxRecDepth 16384

@[expose] public section

noncomputable section

namespace Cert.ReferenceIdeal.Value

open Cert.ReferenceIdeal Cert.ReferenceIdeal.Gen Idealize.ShloMosaic

/-- The edges of every graph, from one graph's table of nodes. -/
def ends (tab : Fin 34 → BitVec 32) : IVec S278528 32 :=
  shapeCast _ (addi (broadcastInDim S8192x34 ![0, 1] bcast_S1x34_S8192x34_0_1 (broadcastInDim S1x34 ![1] bcast_S34_S1x34_1 (fun i => tab (S34.rowMajor i))))
    (broadcastInDim S8192x34 ![0, 1] bcast_S8192x1_S8192x34_0_1 (broadcastInDim S8192x1 ![0] bcast_S8192_S8192x1_0
      (muli (iotaInDim S8192 32 0) (broadcastInDim S8192 ![] bcast_S_S8192 (constantI S_ 32 16#32)))))) shapeCasts_S8192x34_S278528

/-- The edges, then the self-loops. -/
def withLoops (x : IVec S278528 32) : IVec S409600 32 :=
  concatenate S409600 0 [⟨S278528, x⟩, ⟨S131072, (iotaInDim S131072 32 0)⟩] concatenates_S278528_S131072_S409600_d0

/-- A list of indices as the column of an index array, a negative one counted from the end. -/
def wrap (x : IVec S409600 32) : IVec S409600x1 32 :=
  broadcastInDim S409600x1 ![0] bcast_S409600_S409600x1_0 (select (cmpi .slt x (broadcastInDim S409600 ![] bcast_S_S409600 (constantI S_ 32 0#32)))
    (addi x (broadcastInDim S409600 ![] bcast_S_S409600 (constantI S_ 32 131072#32))) x)

/-- The indices of the edges' starts, -/
def srcs : IVec S409600x1 32 := wrap (withLoops (ends lit0))

/-- and of their ends. -/
def dsts : IVec S409600x1 32 := wrap (withLoops (ends lit1))

/-- The degrees of the nodes. -/
def degs : FVec Ideal S131072 .f32 :=
  Host.scatterAdd scatter_S131072_S409600x1_S409600_n_0_0_1 (broadcastInDim S131072 ![] bcast_S_S131072 (constant S_ .f32 0x00000000#32)) dsts
    (broadcastInDim S409600 ![] bcast_S_S409600 (constant S_ .f32 0x3F800000#32))

/-- Their inverse square roots. -/
def dinvs : FVec Ideal S131072 .f32 :=
  select (cmpf .ogt degs (broadcastInDim S131072 ![] bcast_S_S131072 (constant S_ .f32 0x00000000#32))) (Host.rsqrt degs)
    (broadcastInDim S131072 ![] bcast_S_S131072 (id (constant S_ .f32 0x00000000#32)))

/-- The weights of the edges. -/
def norms : FVec Ideal S409600 .f32 :=
  mulf (Host.gather gather_S131072_S409600x1_S409600_n_0_n_n_0_1_1 dinvs srcs) (Host.gather gather_S131072_S409600x1_S409600_n_0_n_n_0_1_1 dinvs dsts)

/-- A graph convolution after its product with the weights: the weighted sum along the edges, the bias, the clamp at zero. -/
def spread (h : FVec Ideal S131072x128 .f32) (b : FVec Ideal S128 .f32) : FVec Ideal S131072x128 .f32 :=
  maximumf (addf (Host.scatterAdd scatter_S131072x128_S409600x1_S409600x128_1_0_0_1 (broadcastInDim S131072x128 ![] bcast_S_S131072x128 (constant S_ .f32 0x00000000#32)) dsts
      (mulf (Host.gather gather_S131072x128_S409600x1_S409600x128_1_0_n_n_0_1_1128 h srcs)
        (broadcastInDim S409600x128 ![0, 1] bcast_S409600x1_S409600x128_0_1 (broadcastInDim S409600x1 ![0] bcast_S409600_S409600x1_0 norms))))
    (broadcastInDim S131072x128 ![0, 1] bcast_S1x128_S131072x128_0_1 (broadcastInDim S1x128 ![1] bcast_S128_S1x128_1 b)))
    (broadcastInDim S131072x128 ![] bcast_S_S131072x128 (constant S_ .f32 0x00000000#32))

/-- The data as one row of features and steps per node of the batch. -/
def rows (x : FVec Ideal S8192x5x16x64 .f32) : FVec Ideal S131072x64x5 .f32 :=
  shapeCast _ (transpose S8192x16x64x5 [0, 2, 3, 1] x transposes_S8192x5x16x64_S8192x16x64x5_0_2_3_1) shapeCasts_S8192x16x64x5_S131072x64x5

/-- The first convolution, clamped at zero. -/
def conv1 (x : FVec Ideal S131072x64x5 .f32) (W : FVec Ideal S64x64x3 .f32) (b : FVec Ideal S64 .f32) : FVec Ideal S131072x64x3 .f32 :=
  maximumf (addf (addf (addf (transpose S131072x64x3 [1, 0, 2] (Host.dotGeneral dot_S64x64_S131072x64x3_S64x131072x3_1_1_0_02_n_n none (shapeCast _ (extractStridedSlice S64x64x1 ![0, 0, 0] W slices_S64x64x3_S64x64x1_0_0_0) shapeCasts_S64x64x1_S64x64) (extractStridedSlice S131072x64x3 ![0, 0, 0] x slices_S131072x64x5_S131072x64x3_0_0_0)) transposes_S64x131072x3_S131072x64x3_1_0_2) (transpose S131072x64x3 [1, 0, 2] (Host.dotGeneral dot_S64x64_S131072x64x3_S64x131072x3_1_1_0_02_n_n none (shapeCast _ (extractStridedSlice S64x64x1 ![0, 0, 1] W slices_S64x64x3_S64x64x1_0_0_1) shapeCasts_S64x64x1_S64x64) (extractStridedSlice S131072x64x3 ![0, 0, 1] x slices_S131072x64x5_S131072x64x3_0_0_1)) transposes_S64x131072x3_S131072x64x3_1_0_2)) (transpose S131072x64x3 [1, 0, 2] (Host.dotGeneral dot_S64x64_S131072x64x3_S64x131072x3_1_1_0_02_n_n none (shapeCast _ (extractStridedSlice S64x64x1 ![0, 0, 2] W slices_S64x64x3_S64x64x1_0_0_2) shapeCasts_S64x64x1_S64x64) (extractStridedSlice S131072x64x3 ![0, 0, 2] x slices_S131072x64x5_S131072x64x3_0_0_2)) transposes_S64x131072x3_S131072x64x3_1_0_2)) (broadcastInDim S131072x64x3 ![0, 1, 2] bcast_S1x64x1_S131072x64x3_0_1_2 (broadcastInDim S1x64x1 ![1] bcast_S64_S1x64x1_1 b))) (broadcastInDim S131072x64x3 ![] bcast_S_S131072x64x3 (constant S_ .f32 0x00000000#32))

/-- The second convolution, clamped at zero. -/
def conv2 (x : FVec Ideal S131072x64x3 .f32) (W : FVec Ideal S64x64x3 .f32) (b : FVec Ideal S64 .f32) : FVec Ideal S131072x64x1 .f32 :=
  maximumf (addf (addf (addf (transpose S131072x64x1 [1, 0, 2] (Host.dotGeneral dot_S64x64_S131072x64x1_S64x131072x1_1_1_0_02_n_n none (shapeCast _ (extractStridedSlice S64x64x1 ![0, 0, 0] W slices_S64x64x3_S64x64x1_0_0_0) shapeCasts_S64x64x1_S64x64) (extractStridedSlice S131072x64x1 ![0, 0, 0] x slices_S131072x64x3_S131072x64x1_0_0_0)) transposes_S64x131072x1_S131072x64x1_1_0_2) (transpose S131072x64x1 [1, 0, 2] (Host.dotGeneral dot_S64x64_S131072x64x1_S64x131072x1_1_1_0_02_n_n none (shapeCast _ (extractStridedSlice S64x64x1 ![0, 0, 1] W slices_S64x64x3_S64x64x1_0_0_1) shapeCasts_S64x64x1_S64x64) (extractStridedSlice S131072x64x1 ![0, 0, 1] x slices_S131072x64x3_S131072x64x1_0_0_1)) transposes_S64x131072x1_S131072x64x1_1_0_2)) (transpose S131072x64x1 [1, 0, 2] (Host.dotGeneral dot_S64x64_S131072x64x1_S64x131072x1_1_1_0_02_n_n none (shapeCast _ (extractStridedSlice S64x64x1 ![0, 0, 2] W slices_S64x64x3_S64x64x1_0_0_2) shapeCasts_S64x64x1_S64x64) (extractStridedSlice S131072x64x1 ![0, 0, 2] x slices_S131072x64x3_S131072x64x1_0_0_2)) transposes_S64x131072x1_S131072x64x1_1_0_2)) (broadcastInDim S131072x64x1 ![0, 1, 2] bcast_S1x64x1_S131072x64x1_0_1_2 (broadcastInDim S1x64x1 ![1] bcast_S64_S1x64x1_1 b))) (broadcastInDim S131072x64x1 ![] bcast_S_S131072x64x1 (constant S_ .f32 0x00000000#32))

/-- The convolutions' features as a table: node of the batch, feature. -/
def flat (x : FVec Ideal S131072x64x1 .f32) : FVec Ideal S131072x64 .f32 :=
  shapeCast _ (shapeCast _ (transpose S8192x1x16x64 [0, 3, 1, 2] (shapeCast _ x shapeCasts_S131072x64x1_S8192x16x64x1) transposes_S8192x16x64x1_S8192x1x16x64_0_3_1_2) shapeCasts_S8192x1x16x64_S8192x16x64) shapeCasts_S8192x16x64_S131072x64

/-- The linear layer and the hyperbolic tangent. -/
def head (g : FVec Ideal S131072x128 .f32) (W : FVec Ideal S128x16 .f32) (b : FVec Ideal S16 .f32) : FVec Ideal S131072x16 .f32 :=
  Host.tanh (addf (Host.dotGeneral dot_S131072x128_S128x16_S131072x16_1_0_0_1_n_n none g W)
    (broadcastInDim S131072x16 ![0, 1] bcast_S1x16_S131072x16_0_1 (broadcastInDim S1x16 ![1] bcast_S16_S1x16_1 b)))

/-- The number of the graph of every node. -/
def ids : IVec S131072x1 32 :=
  broadcastInDim S131072x1 ![0] bcast_S131072_S131072x1_0 (shapeCast _ (broadcastInDim S8192x16 ![0] bcast_S8192_S8192x16_0 (iotaInDim S8192 32 0)) shapeCasts_S8192x16_S131072)

/-- The mean over every graph's nodes. -/
def means (y : FVec Ideal S131072x16 .f32) : FVec Ideal S8192x16 .f32 :=
  Host.divf (Host.scatterAdd scatter_S8192x16_S131072x1_S131072x16_1_0_0_1 (broadcastInDim S8192x16 ![] bcast_S_S8192x16 (constant S_ .f32 0x00000000#32)) ids y)
    (broadcastInDim S8192x16 ![] bcast_S_S8192x16 (constant S_ .f32 0x41800000#32))

/-- The whole reference. -/
def result (a0 : FVec Ideal S8192x5x16x64 .f32) (a1 : FVec Ideal S64x64x3 .f32) (a2 : FVec Ideal S64 .f32) (a3 : FVec Ideal S64x64x3 .f32)
    (a4 : FVec Ideal S64 .f32) (a5 : FVec Ideal S64x128 .f32) (a6 : FVec Ideal S128 .f32) (a7 : FVec Ideal S128x128 .f32)
    (a8 : FVec Ideal S128 .f32) (a9 : FVec Ideal S128x16 .f32) (a10 : FVec Ideal S16 .f32) : FVec Ideal S8192x16 .f32 :=
  means (head (spread (Host.dotGeneral dot_S131072x128_S128x128_S131072x128_1_0_0_1_n_n none
    (spread (Host.dotGeneral dot_S131072x64_S64x128_S131072x128_1_0_0_1_n_n none (flat (conv2 (conv1 (rows a0) a1 a2) a3 a4)) a5) a6) a7) a8) a9 a10)

/-- The run's term is the composition of the stages. -/
theorem val_eq (V0 : Valuation τ sig (Elt Ideal)) :
    val4 V0 (Proc.devRef .tc main_v185) = result (V0 (Proc.devRef .tc main_arg0)) (V0 (Proc.devRef .tc main_arg1)) (V0 (Proc.devRef .tc main_arg2))
      (V0 (Proc.devRef .tc main_arg3)) (V0 (Proc.devRef .tc main_arg4)) (V0 (Proc.devRef .tc main_arg5)) (V0 (Proc.devRef .tc main_arg6))
      (V0 (Proc.devRef .tc main_arg7)) (V0 (Proc.devRef .tc main_arg8)) (V0 (Proc.devRef .tc main_arg9)) (V0 (Proc.devRef .tc main_arg10)) :=
  val4_main_v185 V0

end Cert.ReferenceIdeal.Value

end

end
-- ==== Proof.Val.Edges.lean ====
/-
  The edge list of a batch of graphs as the reference lays it out, and sums over it.

  Every graph has 16 nodes and 34 directed edges. The list holds the edges of graph 0, of graph 1, …, and after them one
  self-loop for every node of the batch.
-/
module

public import proofs.«01_k».proof.Proof.Val.Graph

set_option maxRecDepth 8192

@[expose] public section

namespace Cert.Maths

/-- The node an edge of one graph starts at. -/
def esrc : Fin 34 → Fin 16 :=
  ![0, 1, 2, 3, 4, 5, 6, 7, 8, 9, 10, 11, 12, 13, 14, 1, 2, 1, 2, 3, 4, 5, 6, 7, 8, 9, 10, 11, 12, 13, 14, 15, 6, 5]

/-- The node it ends at. -/
def edst : Fin 34 → Fin 16 :=
  ![1, 2, 3, 4, 5, 6, 7, 8, 9, 10, 11, 12, 13, 14, 15, 6, 5, 0, 1, 2, 3, 4, 5, 6, 7, 8, 9, 10, 11, 12, 13, 14, 1, 2]

/-- Node `n` of graph `B`, in the batch. -/
def node (B : Fin 8192) (n : Fin 16) : Fin 131072 := ⟨16 * B.val + n.val, by omega⟩

/-- Edge `k` of graph `B`, in the list. -/
def edge (B : Fin 8192) (k : Fin 34) : Fin 409600 := ⟨34 * B.val + k.val, by omega⟩

/-- The self-loop of a node of the batch, in the list. -/
def loop (N : Fin 131072) : Fin 409600 := ⟨278528 + N.val, by omega⟩

theorem edge_val (B : Fin 8192) (k : Fin 34) : (edge B k).val = 34 * B.val + k.val := rfl

theorem loop_val (N : Fin 131072) : (loop N).val = 278528 + N.val := rfl

theorem node_inj {B B' : Fin 8192} {n n' : Fin 16} : node B n = node B' n' ↔ B = B' ∧ n = n' := by
  unfold node
  simp only [Fin.ext_iff]
  omega

/-- The nodes of the batch are the nodes of its graphs. -/
def nodeEquiv : Fin 8192 × Fin 16 ≃ Fin 131072 where
  toFun p := node p.1 p.2
  invFun N := (⟨N.val / 16, by omega⟩, ⟨N.val % 16, by omega⟩)
  left_inv p := Prod.ext (Fin.ext (show (16 * p.1.val + p.2.val) / 16 = p.1.val by omega))
    (Fin.ext (show (16 * p.1.val + p.2.val) % 16 = p.2.val by omega))
  right_inv N := Fin.ext (show 16 * (N.val / 16) + N.val % 16 = N.val by omega)

/-- A place in the list is an edge of a graph or a self-loop. -/
def edgeEquiv : (Fin 8192 × Fin 34) ⊕ Fin 131072 ≃ Fin 409600 where
  toFun := Sum.elim (fun p => edge p.1 p.2) loop
  invFun e := if h : e.val < 278528 then .inl (⟨e.val / 34, by omega⟩, ⟨e.val % 34, by omega⟩) else .inr ⟨e.val - 278528, by omega⟩
  left_inv p := by
    rcases p with ⟨B, k⟩ | N
    · have h : (edge B k).val < 278528 := by rw [edge_val]; omega
      refine (dif_pos h).trans (congrArg Sum.inl (Prod.ext (Fin.ext ?_) (Fin.ext ?_)))
      · show (34 * B.val + k.val) / 34 = B.val; omega
      · show (34 * B.val + k.val) % 34 = k.val; omega
    · have h : ¬ (loop N).val < 278528 := by rw [loop_val]; omega
      refine (dif_neg h).trans (congrArg Sum.inr (Fin.ext ?_))
      exact (congrArg (· - 278528) (loop_val N)).trans (Nat.add_sub_cancel_left _ _)
  right_inv e := by
    by_cases h : e.val < 278528
    · refine (congrArg (Sum.elim (fun p : Fin 8192 × Fin 34 => edge p.1 p.2) loop) (dif_pos h)).trans ?_
      exact Fin.ext (show 34 * (e.val / 34) + e.val % 34 = e.val by omega)
    · refine (congrArg (Sum.elim (fun p : Fin 8192 × Fin 34 => edge p.1 p.2) loop) (dif_neg h)).trans ?_
      exact Fin.ext ((loop_val _).trans (Nat.add_sub_cancel' (Nat.le_of_not_lt h)))

theorem edgeEquiv_inl (B : Fin 8192) (k : Fin 34) : edgeEquiv (.inl (B, k)) = edge B k := rfl

theorem edgeEquiv_inr (N : Fin 131072) : edgeEquiv (.inr N) = loop N := rfl

/-- A sum over the nodes of the batch, graph by graph. -/
theorem sum_nodes (f : Fin 131072 → EReal) : ∑ N, f N = ∑ B, ∑ n, f (node B n) := by
  rw [← nodeEquiv.sum_comp f, Fintype.sum_prod_type]
  rfl

/-- A sum over a type split into pairs and single places. -/
theorem sum_split {α β γ δ : Type} [Fintype α] [Fintype β] [Fintype γ] [Fintype δ] (e : (α × β) ⊕ γ ≃ δ) (f : δ → EReal) :
    ∑ d, f d = (∑ a, ∑ b, f (e (.inl (a, b)))) + ∑ c, f (e (.inr c)) := by
  rw [← e.sum_comp f, Fintype.sum_sum_type, Fintype.sum_prod_type]

/-- A sum over the list: the edges graph by graph, then the self-loops. -/
theorem sum_edges (f : Fin 409600 → EReal) : ∑ e, f e = (∑ B, ∑ k, f (edge B k)) + ∑ N, f (loop N) :=
  sum_split edgeEquiv f

/-- The sum over the places of the list that end at node `n` of graph `B`: that graph's edges into it, and its self-loop. -/
theorem sum_into (f : Fin 409600 → EReal) (D : Fin 409600 → Fin 131072) (hE : ∀ B k, D (edge B k) = node B (edst k))
    (hL : ∀ N, D (loop N) = N) (B : Fin 8192) (n : Fin 16) :
    (∑ e, if D e = node B n then f e else 0) = (∑ k, if edst k = n then f (edge B k) else 0) + f (loop (node B n)) := by
  rw [sum_edges]
  refine congrArg₂ (· + ·) ?_ ?_
  · rw [Finset.sum_eq_single B]
    · refine Finset.sum_congr rfl fun k _ => ?_
      rw [hE]
      exact if_congr (node_inj.trans (and_iff_right rfl)) rfl rfl
    · intro B' _ hne
      refine Finset.sum_eq_zero fun k _ => ?_
      rw [hE]
      exact if_neg fun e => hne (node_inj.1 e).1
    · exact fun h => absurd (Finset.mem_univ _) h
  · simp only [hL]
    rw [Finset.sum_ite_eq' Finset.univ (node B n) fun N => f (loop N)]
    exact if_pos (Finset.mem_univ _)

/-- The sum over the nodes of the batch that lie in graph `B`. -/
theorem sum_in (f : Fin 131072 → EReal) (D : Fin 131072 → Fin 8192) (hD : ∀ B n, D (node B n) = B) (B : Fin 8192) :
    (∑ N, if D N = B then f N else 0) = ∑ n, f (node B n) := by
  rw [sum_nodes, Finset.sum_eq_single B]
  · refine Finset.sum_congr rfl fun n _ => ?_
    rw [hD, if_pos rfl]
  · intro B' _ hne
    refine Finset.sum_eq_zero fun n _ => ?_
    rw [hD, if_neg hne]
  · exact fun h => absurd (Finset.mem_univ _) h

/-- Between two different nodes the edge list has one edge if they are adjacent, none if not. -/
theorem edge_count : ∀ n j : Fin 16, (Finset.univ.filter fun k => edst k = n ∧ esrc k = j).card = if adj n j = true ∧ j ≠ n then 1 else 0 := by
  decide +kernel

/-- The edges into a node, and its self-loop, are its neighbours. -/
theorem edge_sum (g : Fin 16 → EReal) (n : Fin 16) :
    (∑ k, if edst k = n then g (esrc k) else 0) + g n = ∑ j, if adj n j = true then g j else 0 := by
  have h1 : ∀ k, (if edst k = n then g (esrc k) else 0) = ∑ j, if edst k = n ∧ esrc k = j then g j else 0 := by
    intro k
    by_cases h : edst k = n
    · simp only [if_pos h, true_and, h]
      rw [Finset.sum_ite_eq Finset.univ (esrc k) g]
      exact (if_pos (Finset.mem_univ _)).symm
    · simp only [if_neg h, h, false_and]
      simp
  simp only [h1]
  rw [Finset.sum_comm]
  have h2 : ∀ j, (∑ k, if edst k = n ∧ esrc k = j then g j else 0) = if adj n j = true ∧ j ≠ n then g j else 0 := by
    intro j
    rw [← Finset.sum_filter, Finset.sum_const, edge_count]
    split_ifs
    · exact one_nsmul _
    · exact zero_nsmul _
  simp only [h2]
  have h3 : g n = ∑ j, if j = n then g j else 0 := by
    rw [Finset.sum_ite_eq' Finset.univ n g]
    exact (if_pos (Finset.mem_univ _)).symm
  conv_lhs => rw [h3]
  rw [← Finset.sum_add_distrib]
  refine Finset.sum_congr rfl fun j _ => ?_
  by_cases hj : j = n
  · subst hj
    have : adj j j = true := by simp [adj]
    simp [this]
  · simp [hj]

/-- The number of edges into a node, and its self-loop, is its degree. -/
theorem edge_deg (n : Fin 16) : ((∑ k, if edst k = n then (1 : EReal) else 0) + 1) = ((deg n : ℝ) : EReal) := by
  rw [edge_sum (fun _ => 1) n, ← Finset.sum_filter, Finset.sum_const, nsmul_one]
  exact EReal.coe_natCast.symm

/-- The product of the two ends' inverse square roots of the degree is the entry of the normalised adjacency. -/
theorem A_prod (n j : Fin 16) (h : adj n j = true) :
    (((√(deg j : ℝ))⁻¹ : ℝ) : EReal) * (((√(deg n : ℝ))⁻¹ : ℝ) : EReal) = A n j := by
  rw [A_of n j h, ← EReal.coe_mul, ← mul_inv, Real.sqrt_mul (Nat.cast_nonneg _), mul_comm (√(deg n : ℝ))]

/-- A layer's aggregation, edge by edge. -/
theorem agg_edges (z : Fin 16 → EReal) (n : Fin 16) :
    (∑ k, if edst k = n then z (esrc k) * ((((√(deg (esrc k) : ℝ))⁻¹ : ℝ) : EReal) * (((√(deg (edst k) : ℝ))⁻¹ : ℝ) : EReal)) else 0)
        + z n * ((((√(deg n : ℝ))⁻¹ : ℝ) : EReal) * (((√(deg n : ℝ))⁻¹ : ℝ) : EReal)) = agg z n := by
  have h := edge_sum (fun j => z j * ((((√(deg j : ℝ))⁻¹ : ℝ) : EReal) * (((√(deg n : ℝ))⁻¹ : ℝ) : EReal))) n
  have e : (∑ k, if edst k = n then z (esrc k) * ((((√(deg (esrc k) : ℝ))⁻¹ : ℝ) : EReal) * (((√(deg (edst k) : ℝ))⁻¹ : ℝ) : EReal)) else 0)
      = ∑ k, if edst k = n then z (esrc k) * ((((√(deg (esrc k) : ℝ))⁻¹ : ℝ) : EReal) * (((√(deg n : ℝ))⁻¹ : ℝ) : EReal)) else 0 := by
    refine Finset.sum_congr rfl fun k _ => ?_
    by_cases hk : edst k = n
    · rw [if_pos hk, if_pos hk, hk]
    · rw [if_neg hk, if_neg hk]
  rw [e]
  refine h.trans ?_
  unfold agg
  refine Finset.sum_congr rfl fun j _ => ?_
  by_cases hj : adj n j = true
  · rw [if_pos hj, A_prod n j hj]
  · rw [if_neg hj, A_of_not n j (by simpa using hj), mul_zero]

end Cert.Maths

end
-- ==== Proof.Val.Convs.lean ====
/-
  The reference's convolutions at an index.
-/
module

public import proofs.«01_k».proof.Proof.Val.Stages
public import proofs.«01_k».proof.Proof.Val.Edges
public import proofs.«01_k».proof.Proof.Val.Args

set_option maxRecDepth 8192

@[expose] public section

namespace Cert.ReferenceIdeal.Value

open Cert.ReferenceIdeal Cert.ReferenceIdeal.Gen Idealize.ShloMosaic Cert.Maths

/-- A row of the data is a node of a graph. -/
theorem rows_at (x : FVec Ideal S8192x5x16x64 .f32) (B : Fin 8192) (n : Fin 16) (s : Fin 64) (l : Fin 5) :
    rows x (ix3 (node B n) s l) = x (ix4 B l n s) := by
  unfold rows
  pointwise
  have hB : (node B n).val / 16 = B.val := show (16 * B.val + n.val) / 16 = B.val by omega
  have hn : (node B n).val % 16 = n.val := show (16 * B.val + n.val) % 16 = n.val by omega
  exact congrArg x (congrArg₂ (fun B n => ix4 B l n s) (Fin.ext hB) (Fin.ext hn))

/-- The first convolution at a node, an output feature and a step. -/
theorem conv1_at (x : FVec Ideal S131072x64x5 .f32) (W : FVec Ideal S64x64x3 .f32) (b : FVec Ideal S64 .f32)
    (N : Fin 131072) (o : Fin 64) (p : Fin 3) :
    conv1 x W b (ix3 N o p) = conv (fun o c k => W (ix3 o c k)) (fun o => b (ix1 o)) (fun k c => x (ix3 N c (step p k))) o := by
  unfold conv1 conv taps
  pointwise
  have h0 : step p 0 = ⟨p.val, by omega⟩ := rfl
  have h1 : step p 1 = ⟨1 + p.val, by omega⟩ := Fin.ext (Nat.add_comm _ _)
  have h2 : step p 2 = ⟨2 + p.val, by omega⟩ := Fin.ext (Nat.add_comm _ _)
  rw [h0, h1, h2]

/-- The second convolution at a node and an output feature. -/
theorem conv2_at (x : FVec Ideal S131072x64x3 .f32) (W : FVec Ideal S64x64x3 .f32) (b : FVec Ideal S64 .f32)
    (N : Fin 131072) (o : Fin 64) :
    conv2 x W b (ix3 N o 0) = conv (fun o c k => W (ix3 o c k)) (fun o => b (ix1 o)) (fun k c => x (ix3 N c k)) o := by
  unfold conv2 conv taps
  pointwise

/-- The table of features is the convolutions' result. -/
theorem flat_at (x : FVec Ideal S131072x64x1 .f32) (B : Fin 8192) (n : Fin 16) (f : Fin 64) :
    flat x (ix2 (node B n) f) = x (ix3 (node B n) f 0) := by
  unfold flat
  pointwise

end Cert.ReferenceIdeal.Value

end
-- ==== Proof.Val.Listing.lean ====
/-
  The reference's index arrays name the nodes that the list of edges says.
-/
module

public import proofs.«01_k».proof.Proof.Val.Stages
public import proofs.«01_k».proof.Proof.Val.Edges

set_option maxRecDepth 8192

@[expose] public section

namespace Cert.ReferenceIdeal.Value

open Cert.ReferenceIdeal Cert.ReferenceIdeal.Gen Idealize.ShloMosaic Cert.Maths

/-- The node that a place of the list names, by one graph's table of nodes; a self-loop names its own. -/
def names (tab : Fin 34 → Fin 16) (e : Fin 409600) : Fin 131072 :=
  Sum.elim (fun p => node p.1 (tab p.2)) id (edgeEquiv.symm e)

theorem names_edge (tab : Fin 34 → Fin 16) (B : Fin 8192) (k : Fin 34) : names tab (edge B k) = node B (tab k) := by
  unfold names
  rw [← edgeEquiv_inl, Equiv.symm_apply_apply]
  rfl

theorem names_loop (tab : Fin 34 → Fin 16) (N : Fin 131072) : names tab (loop N) = N := by
  unfold names
  rw [← edgeEquiv_inr, Equiv.symm_apply_apply]
  rfl

/-- The word of an edge. -/
theorem ends_at (tab : Fin 34 → BitVec 32) (B : Fin 8192) (k : Fin 34) (h : 34 * B.val + k.val < 278528) :
    ends tab (ix1 ⟨34 * B.val + k.val, h⟩) = tab k + BitVec.ofNat 32 B.val * 16#32 := by
  unfold ends
  pointwise
  exact congrArg₂ (· + ·) (congrArg tab (Fin.ext (Shape.rowMajor_val_one _))) rfl

/-- The list of edges with self-loops, at an edge, -/
theorem loops_edge (x : IVec S278528 32) (B : Fin 8192) (k : Fin 34) :
    withLoops x (ix1 (edge B k)) = x (ix1 ⟨34 * B.val + k.val, by omega⟩) := by
  unfold withLoops
  pointwise
  exact dif_pos (by rw [edge_val]; omega)

/-- and at a self-loop. -/
theorem loops_loop (x : IVec S278528 32) (N : Fin 131072) :
    withLoops x (ix1 (loop N)) = BitVec.ofNat 32 N.val := by
  unfold withLoops
  pointwise
  rw [dif_neg (by rw [loop_val]; omega), loop_val, Nat.add_sub_cancel_left]

/-- An index that is not negative is kept. -/
theorem wrap_at (x : IVec S409600 32) (e : Fin 409600) (n : ℕ) (hn : n < 2 ^ 31) (h : x (ix1 e) = BitVec.ofNat 32 n) :
    wrap x (ix2 e 0) = BitVec.ofNat 32 n := by
  unfold wrap
  pointwise
  rw [h]
  refine Routing.wrap_of_lt _ _ ?_
  rw [BitVec.toNat_ofNat]
  omega

/-- The starts of one graph's edges, as printed, -/
theorem lit0_at (k : Fin 34) : lit0 k = BitVec.ofNat 32 (esrc k).val := by
  fin_cases k <;> rfl

/-- and their ends. -/
theorem lit1_at (k : Fin 34) : lit1 k = BitVec.ofNat 32 (edst k).val := by
  fin_cases k <;> rfl

/-- An index array of a table of nodes names them. -/
theorem wrap_names (lit : Fin 34 → BitVec 32) (tab : Fin 34 → Fin 16) (h : ∀ k, lit k = BitVec.ofNat 32 (tab k).val) :
    Names (wrap (withLoops (ends lit))) (names tab) := by
  intro e
  refine wrap_at _ e _ (by omega) ?_
  obtain ⟨p, rfl⟩ := edgeEquiv.surjective e
  rcases p with ⟨B, k⟩ | N
  · rw [edgeEquiv_inl, names_edge, loops_edge, ends_at, h k, BitVec.ofNat_mul_ofNat, BitVec.ofNat_add_ofNat]
    exact congrArg _ (show (tab k).val + B.val * 16 = 16 * B.val + (tab k).val by omega)
  · rw [edgeEquiv_inr, names_loop, loops_loop]

/-- The starts, -/
theorem srcs_names : Names srcs (names esrc) := wrap_names lit0 esrc lit0_at

/-- and the ends. -/
theorem dsts_names : Names dsts (names edst) := wrap_names lit1 edst lit1_at

/-- The graph of a node of the batch. -/
def owner (N : Fin 131072) : Fin 8192 := ⟨N.val / 16, by omega⟩

theorem owner_node (B : Fin 8192) (n : Fin 16) : owner (node B n) = B :=
  Fin.ext (show (16 * B.val + n.val) / 16 = B.val by omega)

/-- The graphs' numbers name the graphs. -/
theorem ids_names : Names ids owner := by
  intro N
  unfold ids
  pointwise
  rfl

end Cert.ReferenceIdeal.Value

end
-- ==== Proof.Val.Layers.lean ====
/-
  The reference's graph convolutions, its linear layer and its mean at an index.
-/
module

public import proofs.«01_k».proof.Proof.Val.Listing
public import proofs.«01_k».proof.Proof.Val.Net

set_option maxRecDepth 8192

@[expose] public section

namespace Cert.ReferenceIdeal.Value

open Cert.ReferenceIdeal Cert.ReferenceIdeal.Gen Idealize.ShloMosaic Cert.Maths

/-- The word of the number of nodes. -/
theorem lit_sixteen : Ideal.ofBits .f32 0x41800000#32 = ((16 : ℝ) : EReal) := by
  simp [Ideal.ofBits, Ideal.ieee, -EReal.coe_mul]; norm_num

/-- No node is without a neighbour: it has itself. -/
theorem deg_pos : ∀ n, 0 < deg n := by decide +kernel

/-- A node's degree: its edges in, and itself. -/
theorem degs_at (B : Fin 8192) (n : Fin 16) : degs (ix1 (node B n)) = ((deg n : ℝ) : EReal) := by
  unfold degs
  rw [add_vec _ _ _ _ dsts_names, sum_into _ _ (names_edge edst) (names_loop edst)]
  pointwise
  exact edge_deg n

/-- The inverse of its root. -/
theorem dinvs_at (B : Fin 8192) (n : Fin 16) : dinvs (ix1 (node B n)) = (((√(deg n : ℝ))⁻¹ : ℝ) : EReal) := by
  unfold dinvs
  pointwise
  rw [degs_at]
  have hp : (0 : ℝ) < (deg n : ℝ) := Nat.cast_pos.2 (deg_pos n)
  rw [if_pos (EReal.coe_pos.2 hp), Ideal.rsqrt_coe, if_neg (not_lt.2 hp.le), if_neg hp.ne']

/-- The weight of an edge, -/
theorem norms_edge (B : Fin 8192) (k : Fin 34) :
    norms (ix1 (edge B k)) = (((√(deg (esrc k) : ℝ))⁻¹ : ℝ) : EReal) * (((√(deg (edst k) : ℝ))⁻¹ : ℝ) : EReal) := by
  unfold norms
  refine (ValueIdx.mulf_apply _ _ _).trans ?_
  rw [take_vec _ _ _ srcs_names, take_vec _ _ _ dsts_names, names_edge, names_edge, dinvs_at, dinvs_at]

/-- and of a self-loop. -/
theorem norms_loop (B : Fin 8192) (n : Fin 16) :
    norms (ix1 (loop (node B n))) = (((√(deg n : ℝ))⁻¹ : ℝ) : EReal) * (((√(deg n : ℝ))⁻¹ : ℝ) : EReal) := by
  unfold norms
  refine (ValueIdx.mulf_apply _ _ _).trans ?_
  rw [take_vec _ _ _ srcs_names, take_vec _ _ _ dsts_names, names_loop, names_loop, dinvs_at]

/-- A graph convolution after its product: the sum over the neighbours, the bias, the clamp. -/
theorem spread_at (h : FVec Ideal S131072x128 .f32) (b : FVec Ideal S128 .f32) (B : Fin 8192) (n : Fin 16) (f : Fin 128) :
    spread h b (ix2 (node B n) f) = max (agg (fun j => h (ix2 (node B j) f)) n + b (ix1 f)) 0 := by
  have key : Host.scatterAdd scatter_S131072x128_S409600x1_S409600x128_1_0_0_1 (broadcastInDim S131072x128 ![] bcast_S_S131072x128 (constant (F := Ideal) S_ .f32 0x00000000#32)) dsts
      (mulf (Host.gather gather_S131072x128_S409600x1_S409600x128_1_0_n_n_0_1_1128 h srcs)
        (broadcastInDim S409600x128 ![0, 1] bcast_S409600x1_S409600x128_0_1 (broadcastInDim S409600x1 ![0] bcast_S409600_S409600x1_0 norms))) (ix2 (node B n) f)
      = agg (fun j => h (ix2 (node B j) f)) n := by
    have hu : ∀ e, mulf (Host.gather gather_S131072x128_S409600x1_S409600x128_1_0_n_n_0_1_1128 h srcs)
        (broadcastInDim S409600x128 ![0, 1] bcast_S409600x1_S409600x128_0_1 (broadcastInDim S409600x1 ![0] bcast_S409600_S409600x1_0 norms)) (ix2 e f)
        = h (ix2 (names esrc e) f) * norms (ix1 e) := by
      intro e
      refine (ValueIdx.mulf_apply _ _ _).trans ?_
      rw [take_row _ _ _ srcs_names]
      pointwise
    rw [add_row _ _ _ _ dsts_names, sum_into _ _ (names_edge edst) (names_loop edst), hu, norms_loop, names_loop]
    simp only [hu, names_edge, norms_edge]
    rw [agg_edges (fun j => h (ix2 (node B j) f)) n]
    pointwise
  unfold spread
  pointwise
  rw [key]

/-- The linear layer under the hyperbolic tangent. -/
theorem head_at (g : FVec Ideal S131072x128 .f32) (W : FVec Ideal S128x16 .f32) (b : FVec Ideal S16 .f32) (N : Fin 131072) (o : Fin 16) :
    head g W b (ix2 N o) = lin (fun f o => W (ix2 f o)) (fun o => b (ix1 o)) (fun f => g (ix2 N f)) o := by
  unfold head lin
  pointwise

/-- The mean over a graph's nodes. -/
theorem means_at (y : FVec Ideal S131072x16 .f32) (B : Fin 8192) (o : Fin 16) :
    means y (ix2 B o) = (∑ n, y (ix2 (node B n) o)) * ((1 / 16 : ℝ) : EReal) := by
  unfold means
  pointwise
  rw [add_graph _ _ _ _ ids_names, sum_in _ _ owner_node]
  pointwise
  rw [lit_sixteen, Ideal.div_coe (by norm_num)]

end Cert.ReferenceIdeal.Value

end
-- ==== Proof.Val.Reference.lean ====
/-
  The reference computes the network's output on every graph.
-/
module

public import proofs.«01_k».proof.Proof.Val.Convs
public import proofs.«01_k».proof.Proof.Val.Layers

set_option maxRecDepth 8192

@[expose] public section

namespace Cert.ReferenceIdeal.Value

open Cert.ReferenceIdeal Cert.ReferenceIdeal.Gen Idealize.ShloMosaic Idealize.ShloMosaic.TcCoe Idealize.SL.Sem Cert.Maths

/-- The table of features holds the two convolutions of every node. -/
theorem feats_at (a0 : FVec Ideal S8192x5x16x64 .f32) (a1 : FVec Ideal S64x64x3 .f32) (a2 : FVec Ideal S64 .f32)
    (a3 : FVec Ideal S64x64x3 .f32) (a4 : FVec Ideal S64 .f32) (B : Fin 8192) (n : Fin 16) (f : Fin 64) :
    flat (conv2 (conv1 (rows a0) a1 a2) a3 a4) (ix2 (node B n) f)
      = feat (fun o c k => a1 (ix3 o c k)) (fun o => a2 (ix1 o)) (fun o c k => a3 (ix3 o c k)) (fun o => a4 (ix1 o)) (graph a0 B n) f := by
  rw [flat_at, conv2_at]
  simp only [conv1_at, rows_at]
  rfl

/-- A graph convolution of a table of 64 features. -/
theorem layer1_at (z : FVec Ideal S131072x64 .f32) (W : FVec Ideal S64x128 .f32) (b : FVec Ideal S128 .f32)
    (B : Fin 8192) (n : Fin 16) (f : Fin 128) :
    spread (Host.dotGeneral dot_S131072x64_S64x128_S131072x128_1_0_0_1_n_n none z W) b (ix2 (node B n) f)
      = gcn (fun c f => W (ix2 c f)) (fun f => b (ix1 f)) (fun j c => z (ix2 (node B j) c)) n f := by
  rw [spread_at]
  unfold gcn
  refine congrArg (fun v => max (agg v n + b (ix1 f)) 0) ?_
  funext j
  pointwise

/-- A graph convolution of a table of 128 features. -/
theorem layer2_at (z : FVec Ideal S131072x128 .f32) (W : FVec Ideal S128x128 .f32) (b : FVec Ideal S128 .f32)
    (B : Fin 8192) (n : Fin 16) (f : Fin 128) :
    spread (Host.dotGeneral dot_S131072x128_S128x128_S131072x128_1_0_0_1_n_n none z W) b (ix2 (node B n) f)
      = gcn (fun c f => W (ix2 c f)) (fun f => b (ix1 f)) (fun j c => z (ix2 (node B j) c)) n f := by
  rw [spread_at]
  unfold gcn
  refine congrArg (fun v => max (agg v n + b (ix1 f)) 0) ?_
  funext j
  pointwise

/-- The reference at a graph and an output. -/
theorem result_at (a0 : FVec Ideal S8192x5x16x64 .f32) (a1 : FVec Ideal S64x64x3 .f32) (a2 : FVec Ideal S64 .f32)
    (a3 : FVec Ideal S64x64x3 .f32) (a4 : FVec Ideal S64 .f32) (a5 : FVec Ideal S64x128 .f32) (a6 : FVec Ideal S128 .f32)
    (a7 : FVec Ideal S128x128 .f32) (a8 : FVec Ideal S128 .f32) (a9 : FVec Ideal S128x16 .f32) (a10 : FVec Ideal S16 .f32)
    (B : Fin 8192) (o : Fin 16) :
    result a0 a1 a2 a3 a4 a5 a6 a7 a8 a9 a10 (ix2 B o) = (weights a1 a2 a3 a4 a5 a6 a7 a8 a9 a10).net (graph a0 B) o := by
  unfold result
  rw [means_at]
  simp only [head_at, layer2_at, layer1_at, feats_at]
  rfl

variable (m : (ℓ : Loc nD τ sig) → Buf (Elt Ideal) ℓ)

/-- The reference's result: the network's output, graph by output. -/
noncomputable def out (c : Dev nD) : Vec Ideal S8192x16 .f32 :=
  fun i => (weights (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))).net (graph (m ((c : Thread nD τ).loc main_arg0)) (i 0)) (i 1)

/-- What the run leaves in the result is that output. -/
theorem val_out (c : Dev nD) : val4 (StableHlo.launchContents m c) (Proc.devRef .tc main_v185) = out m c := by
  refine (val_eq (StableHlo.launchContents m c)).trans ?_
  funext i
  obtain ⟨B, o, rfl⟩ : ∃ (B : Fin 8192) (o : Fin 16), i = ix2 B o := ⟨i 0, i 1, by funext a; fin_cases a <;> rfl⟩
  exact result_at _ _ _ _ _ _ _ _ _ _ _ B o

end Cert.ReferenceIdeal.Value

end
-- ==== Proof.lean ====
module

public import proofs.«01_k».proof.Defs
public import proofs.«01_k».proof.Proof.Gen.Kernel.Frame
public import proofs.«01_k».proof.Proof.Gen.KernelIdeal.Frame
public import proofs.«01_k».proof.Proof.Gen.ReferenceIdeal
public import proofs.«01_k».proof.Proof.Gen.ReferenceIdeal.Run
public import proofs.«01_k».proof.Proof.Val.Array
public import proofs.«01_k».proof.Proof.Val.Reference
public import Idealize.ShloMosaic.Lib.Quiescent

@[expose] public section

noncomputable section

namespace Cert.Proof

open Idealize.ShloMosaic Idealize.SL.Sem

/-- The kernel runs from every memory, ends with every semaphore at zero, and its arguments are unchanged. -/
theorem frame_kernel : Cert.quiescent_Kernel (hKernel := Cert.Kernel.Gen.facts) :=
  fun m ρ _ => Cert.Kernel.Gen.frame m ρ

/-- The same of the idealized kernel. -/
theorem frame_kernelIdeal : Cert.quiescent_KernelIdeal (hKernelIdeal := Cert.KernelIdeal.Gen.facts) :=
  fun m ρ _ => Cert.KernelIdeal.Gen.frame m ρ

/-- The same of the reference, which has no semaphores. -/
theorem frame_referenceIdeal : Cert.quiescent_ReferenceIdeal (hReferenceIdeal := Cert.ReferenceIdeal.Gen.facts) :=
  fun m ρ _ =>
    (θ_run Cert.ReferenceIdeal.defs _ _).mono
      (fun r h => ⟨fun c => (h c).2, sem_eq_zero_of_no_sems (by decide) r.2⟩)
      (Cert.ReferenceIdeal.Value.run (F := Ideal) m ρ)

/-- Each named constant of the idealized kernel denotes the value that its table gives. -/
theorem preserves : Cert.preserves_Kernel_KernelIdeal :=
  ⟨IdealRules.named_const.statement Cert.KernelIdeal.κ "a24" .bf16 0x3EB5#16 (((Real.sqrt 8)⁻¹ : ℝ) : EReal) rfl,
   IdealRules.named_const.statement Cert.KernelIdeal.κ "a34" .bf16 0x3E94#16 (((Real.sqrt 12)⁻¹ : ℝ) : EReal) rfl,
   IdealRules.named_const.statement Cert.KernelIdeal.κ "a33" .bf16 0x3EAB#16 ((1 / 3 : ℝ) : EReal) rfl,
   IdealRules.named_const.statement Cert.KernelIdeal.κ "a23" .bf16 0x3ED1#16 (((Real.sqrt 6)⁻¹ : ℝ) : EReal) rfl⟩

/-- From memories that agree on the arguments, the idealized kernel and the reference leave the same result: the network's
    output on every graph of the batch. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨_, Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Value.val4_main_v185 (StableHlo.launchContents m' c)).symm.trans ?_
  refine (Cert.ReferenceIdeal.Value.val_out m' c).trans ?_
  obtain ⟨h0, h1, h2, h3, h4, h5, h6, h7, h8, h9, h10⟩ := hagree c
  unfold Cert.ReferenceIdeal.Value.out Cert.KernelIdeal.Value.out Cert.KernelIdeal.Value.wts
  rw [h0, h1, h2, h3, h4, h5, h6, h7, h8, h9, h10]

/-- Everything this certificate claims. -/
theorem claim : Cert.Claim :=
  ⟨Cert.Kernel.Gen.facts, Cert.KernelIdeal.Gen.facts, Cert.ReferenceIdeal.Gen.facts,
    frame_kernel, frame_kernelIdeal, frame_referenceIdeal, preserves, algebraic⟩

end Cert.Proof

end
